-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.PackStatement Cert.KernelIdeal.S48x96
  ∧ IdealRules.bf16_pair.Statement Cert.KernelIdeal.S96x96 Cert.KernelIdeal.S48x96
  ∧ IdealRules.bf16_pair.Statement Cert.KernelIdeal.S32x2x128 Cert.KernelIdeal.S32x1x128
  ∧ IdealRules.bf16_pair.Statement Cert.KernelIdeal.S64x128 Cert.KernelIdeal.S32x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x48x96 : Shape := ⟨4, ![2, 512, 48, 96]⟩
abbrev S2x512x48 : Shape := ⟨3, ![2, 512, 48]⟩
abbrev S2x512x48x128 : Shape := ⟨4, ![2, 512, 48, 128]⟩
abbrev S2x48x96x128 : Shape := ⟨4, ![2, 48, 96, 128]⟩
abbrev S_ : Shape := ⟨0, ![]⟩

class Facts : Prop where
  bcast_S_S2x512x48x96 : S_.BroadcastsInDim S2x512x48x96 (![] : Fin 0 → Fin S2x512x48x96.rank)
  bcast_S_S2x512x48 : S_.BroadcastsInDim S2x512x48 (![] : Fin 0 → Fin S2x512x48.rank)
  bitsLt_bf16_f32 : FTy.bits .bf16 < FTy.bits .f32
  bcast_S_S2x512x48x128 : S_.BroadcastsInDim S2x512x48x128 (![] : Fin 0 → Fin S2x512x48x128.rank)
  bcast_S_S2x48x96x128 : S_.BroadcastsInDim S2x48x96x128 (![] : Fin 0 → Fin S2x48x96x128.rank)

variable [Facts]

def fn_part1 {F : FTy → Type} [FloatOps F] (main_arg6 : FVec F S2x512x48 .f32) (main_arg7 : FVec F S2x48x96x128 .f32) (main_v2 : IVec S2x512x48x96 1) (main_v5 : IVec S2x512x48 1) (main_v8 : IVec S2x512x48x96 1) (main_v11 : IVec S2x512x48 1) (main_v15 : IVec S2x512x48x128 1) (main_v16 : FVec F S2x512x48x96 .f32) (main_v17 : FVec F S2x512x48x96 .f32) : IVec S2x512x48x96 1 × IVec S2x512x48 1 × IVec S2x512x48x96 1 × IVec S2x512x48 1 × IVec S2x512x48x128 1 × IVec S2x512x48x96 1 × IVec S2x512x48 1 × IVec S2x48x96x128 1 :=
  let main_v18 : IVec S2x512x48x96 1 := cmpf .olt main_v16 main_v17
  let main_v19 : FVec F S2x512x48 .f32 := Host.absf main_arg6
  let main_cst_5 : FVec F S_ .f32 := constant S_ .f32 0x7F800000#32
  let main_v20 : FVec F S2x512x48 .f32 := broadcastInDim S2x512x48 ![] bcast_S_S2x512x48 main_cst_5
  let main_v21 : IVec S2x512x48 1 := cmpf .olt main_v19 main_v20
  let main_v22 : FVec F S2x48x96x128 .f32 := Host.absf main_arg7
  let main_cst_6 : FVec F S_ .f32 := constant S_ .f32 0x7F800000#32
  let main_v23 : FVec F S2x48x96x128 .f32 := broadcastInDim S2x48x96x128 ![] bcast_S_S2x48x96x128 main_cst_6
  let main_v24 : IVec S2x48x96x128 1 := cmpf .olt main_v22 main_v23
  (main_v2, main_v5, main_v8, main_v11, main_v15, main_v18, main_v21, main_v24)

def fn {F : FTy → Type} [FloatOps F] (main_arg0 : FVec F S2x512x48x96 .f32) (main_arg1 : FVec F S2x512x48 .f32) (main_arg2 : FVec F S2x512x48x96 .f32) (main_arg3 : FVec F S2x512x48 .f32) (main_arg4 : FVec F S2x512x48x128 .bf16) (main_arg5 : FVec F S2x512x48x96 .f32) (main_arg6 : FVec F S2x512x48 .f32) (main_arg7 : FVec F S2x48x96x128 .f32) : IVec S2x512x48x96 1 × IVec S2x512x48 1 × IVec S2x512x48x96 1 × IVec S2x512x48 1 × IVec S2x512x48x128 1 × IVec S2x512x48x96 1 × IVec S2x512x48 1 × IVec S2x48x96x128 1 :=
  let main_v0 : FVec F S2x512x48x96 .f32 := Host.absf main_arg0
  let main_cst : FVec F S_ .f32 := constant S_ .f32 0x7F800000#32
  let main_v1 : FVec F S2x512x48x96 .f32 := broadcastInDim S2x512x48x96 ![] bcast_S_S2x512x48x96 main_cst
  let main_v2 : IVec S2x512x48x96 1 := cmpf .olt main_v0 main_v1
  let main_v3 : FVec F S2x512x48 .f32 := Host.absf main_arg1
  let main_cst_0 : FVec F S_ .f32 := constant S_ .f32 0x7F800000#32
  let main_v4 : FVec F S2x512x48 .f32 := broadcastInDim S2x512x48 ![] bcast_S_S2x512x48 main_cst_0
  let main_v5 : IVec S2x512x48 1 := cmpf .olt main_v3 main_v4
  let main_v6 : FVec F S2x512x48x96 .f32 := Host.absf main_arg2
  let main_cst_1 : FVec F S_ .f32 := constant S_ .f32 0x7F800000#32
  let main_v7 : FVec F S2x512x48x96 .f32 := broadcastInDim S2x512x48x96 ![] bcast_S_S2x512x48x96 main_cst_1
  let main_v8 : IVec S2x512x48x96 1 := cmpf .olt main_v6 main_v7
  let main_v9 : FVec F S2x512x48 .f32 := Host.absf main_arg3
  let main_cst_2 : FVec F S_ .f32 := constant S_ .f32 0x7F800000#32
  let main_v10 : FVec F S2x512x48 .f32 := broadcastInDim S2x512x48 ![] bcast_S_S2x512x48 main_cst_2
  let main_v11 : IVec S2x512x48 1 := cmpf .olt main_v9 main_v10
  let main_v12 : FVec F S2x512x48x128 .f32 := (extf .f32 · bitsLt_bf16_f32) main_arg4
  let main_v13 : FVec F S2x512x48x128 .f32 := Host.absf main_v12
  let main_cst_3 : FVec F S_ .f32 := constant S_ .f32 0x7F800000#32
  let main_v14 : FVec F S2x512x48x128 .f32 := broadcastInDim S2x512x48x128 ![] bcast_S_S2x512x48x128 main_cst_3
  let main_v15 : IVec S2x512x48x128 1 := cmpf .olt main_v13 main_v14
  let main_v16 : FVec F S2x512x48x96 .f32 := Host.absf main_arg5
  let main_cst_4 : FVec F S_ .f32 := constant S_ .f32 0x7F800000#32
  let main_v17 : FVec F S2x512x48x96 .f32 := broadcastInDim S2x512x48x96 ![] bcast_S_S2x512x48x96 main_cst_4
  fn_part1 (F := F) main_arg6 main_arg7 main_v2 main_v5 main_v8 main_v11 main_v15 main_v16 main_v17
-- ==== Kernel.lean ====
abbrev S2x512x48x96 : Shape := ⟨4, ![2, 512, 48, 96]⟩
abbrev S2x512x48 : Shape := ⟨3, ![2, 512, 48]⟩
abbrev S2x512x48x128 : Shape := ⟨4, ![2, 512, 48, 128]⟩
abbrev S2x48x96x128 : Shape := ⟨4, ![2, 48, 96, 128]⟩
abbrev S2x512x6144 : Shape := ⟨3, ![2, 512, 6144]⟩
abbrev S1x64x48x96 : Shape := ⟨4, ![1, 64, 48, 96]⟩
abbrev S1x64x48 : Shape := ⟨3, ![1, 64, 48]⟩
abbrev S1x64x48x128 : Shape := ⟨4, ![1, 64, 48, 128]⟩
abbrev S1x48x96x128 : Shape := ⟨4, ![1, 48, 96, 128]⟩
abbrev S1x64x6144 : Shape := ⟨3, ![1, 64, 6144]⟩
abbrev S3328x128 : Shape := ⟨2, ![3328, 128]⟩
abbrev S48x96 : Shape := ⟨2, ![48, 96]⟩
abbrev S1x1x48x96 : Shape := ⟨4, ![1, 1, 48, 96]⟩
abbrev S1664x128 : Shape := ⟨2, ![1664, 128]⟩
abbrev S96x96 : Shape := ⟨2, ![96, 96]⟩
abbrev S64x64 : Shape := ⟨2, ![64, 64]⟩
abbrev S64x48 : Shape := ⟨2, ![64, 48]⟩
abbrev S64x128 : Shape := ⟨2, ![64, 128]⟩
abbrev S32x128 : Shape := ⟨2, ![32, 128]⟩
abbrev S1664x2x128 : Shape := ⟨3, ![1664, 2, 128]⟩
abbrev S32x2x128 : Shape := ⟨3, ![32, 2, 128]⟩
abbrev S32x1x128 : Shape := ⟨3, ![32, 1, 128]⟩
abbrev S1x128 : Shape := ⟨2, ![1, 128]⟩
abbrev S64x1 : Shape := ⟨2, ![64, 1]⟩
abbrev S128x128 : Shape := ⟨2, ![128, 128]⟩
abbrev S128x64 : Shape := ⟨2, ![128, 64]⟩
abbrev S64x384 : Shape := ⟨2, ![64, 384]⟩
abbrev S384x64 : Shape := ⟨2, ![384, 64]⟩
abbrev S1x1x96x128 : Shape := ⟨4, ![1, 1, 96, 128]⟩
abbrev S96x128 : Shape := ⟨2, ![96, 128]⟩
abbrev S384x128 : Shape := ⟨2, ![384, 128]⟩
abbrev S128x384 : Shape := ⟨2, ![128, 384]⟩
abbrev S1x64x1x128 : Shape := ⟨4, ![1, 64, 1, 128]⟩
abbrev S1x64x128 : Shape := ⟨3, ![1, 64, 128]⟩
abbrev S128x192 : Shape := ⟨2, ![128, 192]⟩
abbrev S192x128 : Shape := ⟨2, ![192, 128]⟩
abbrev S128x1 : Shape := ⟨2, ![128, 1]⟩
abbrev S96x1 : Shape := ⟨2, ![96, 1]⟩

abbrev nBuf : Space → Nat
  | .hbm => 12
  | .vmem => 23
  | .smem => 0
  | _ => 0

abbrev bufTy : (tb : Table) → Fin (tcTables nBuf tb) → BufTy
  | .hbm, ⟨0, _⟩ => ⟨S2x512x48x96, .f32⟩
  | .hbm, ⟨1, _⟩ => ⟨S2x512x48, .f32⟩
  | .hbm, ⟨2, _⟩ => ⟨S2x512x48x96, .f32⟩
  | .hbm, ⟨3, _⟩ => ⟨S2x512x48, .f32⟩
  | .hbm, ⟨4, _⟩ => ⟨S2x512x48x128, .bf16⟩
  | .hbm, ⟨5, _⟩ => ⟨S2x512x48x96, .f32⟩
  | .hbm, ⟨6, _⟩ => ⟨S2x512x48, .f32⟩
  | .hbm, ⟨7, _⟩ => ⟨S2x48x96x128, .f32⟩
  | .hbm, ⟨8, _⟩ => ⟨S2x512x48x96, .fp8e4m3⟩
  | .hbm, ⟨9, _⟩ => ⟨S2x512x48x96, .fp8e4m3⟩
  | .hbm, ⟨10, _⟩ => ⟨S2x512x6144, .bf16⟩
  | .hbm, ⟨11, _⟩ => ⟨S2x48x96x128, .f32⟩
  | .local _ .vmem, ⟨0, _⟩ => ⟨S1x64x48x96, .fp8e4m3⟩
  | .local _ .vmem, ⟨1, _⟩ => ⟨S1x64x48x96, .fp8e4m3⟩
  | .local _ .vmem, ⟨2, _⟩ => ⟨S1x64x48, .f32⟩
  | .local _ .vmem, ⟨3, _⟩ => ⟨S1x64x48, .f32⟩
  | .local _ .vmem, ⟨4, _⟩ => ⟨S1x64x48x96, .fp8e4m3⟩
  | .local _ .vmem, ⟨5, _⟩ => ⟨S1x64x48x96, .fp8e4m3⟩
  | .local _ .vmem, ⟨6, _⟩ => ⟨S1x64x48, .f32⟩
  | .local _ .vmem, ⟨7, _⟩ => ⟨S1x64x48, .f32⟩
  | .local _ .vmem, ⟨8, _⟩ => ⟨S1x64x48x128, .bf16⟩
  | .local _ .vmem, ⟨9, _⟩ => ⟨S1x64x48x128, .bf16⟩
  | .local _ .vmem, ⟨10, _⟩ => ⟨S1x64x48x96, .f32⟩
  | .local _ .vmem, ⟨11, _⟩ => ⟨S1x64x48x96, .f32⟩
  | .local _ .vmem, ⟨12, _⟩ => ⟨S1x64x48, .f32⟩
  | .local _ .vmem, ⟨13, _⟩ => ⟨S1x64x48, .f32⟩
  | .local _ .vmem, ⟨14, _⟩ => ⟨S1x48x96x128, .f32⟩
  | .local _ .vmem, ⟨15, _⟩ => ⟨S1x48x96x128, .f32⟩
  | .local _ .vmem, ⟨16, _⟩ => ⟨S1x64x6144, .bf16⟩
  | .local _ .vmem, ⟨17, _⟩ => ⟨S1x64x6144, .bf16⟩
  | .local _ .vmem, ⟨18, _⟩ => ⟨S1x48x96x128, .f32⟩
  | .local _ .vmem, ⟨19, _⟩ => ⟨S1x48x96x128, .f32⟩
  | .local _ .vmem, ⟨20, _⟩ => ⟨S3328x128, .f32⟩
  | .local _ .vmem, ⟨21, _⟩ => ⟨S3328x128, .bf16⟩
  | .local _ .vmem, ⟨22, _⟩ => ⟨S3328x128, .bf16⟩
  | _, _ => ⟨S2x512x48x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x48x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x48x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x48x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x48x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x48x96x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x48x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F]
-- ==== ReferenceIdeal.lean ====
abbrev S2x512x48x96 : Shape := ⟨4, ![2, 512, 48, 96]⟩
abbrev S2x512x48 : Shape := ⟨3, ![2, 512, 48]⟩
abbrev S2x512x48x128 : Shape := ⟨4, ![2, 512, 48, 128]⟩
abbrev S2x48x96x128 : Shape := ⟨4, ![2, 48, 96, 128]⟩
abbrev S2x512x6144 : Shape := ⟨3, ![2, 512, 6144]⟩
abbrev S2x8x64x48x96 : Shape := ⟨5, ![2, 8, 64, 48, 96]⟩
abbrev S8x2x48x64x96 : Shape := ⟨5, ![8, 2, 48, 64, 96]⟩
abbrev S768x64x96 : Shape := ⟨3, ![768, 64, 96]⟩
abbrev S2x8x64x48 : Shape := ⟨4, ![2, 8, 64, 48]⟩
abbrev S8x2x48x64 : Shape := ⟨4, ![8, 2, 48, 64]⟩
abbrev S768x64 : Shape := ⟨2, ![768, 64]⟩
abbrev S2x8x64x48x128 : Shape := ⟨5, ![2, 8, 64, 48, 128]⟩
abbrev S8x2x48x64x128 : Shape := ⟨5, ![8, 2, 48, 64, 128]⟩
abbrev S768x64x128 : Shape := ⟨3, ![768, 64, 128]⟩
abbrev S1x64x64 : Shape := ⟨3, ![1, 64, 64]⟩
abbrev S768x64x64 : Shape := ⟨3, ![768, 64, 64]⟩
abbrev S768x1x96 : Shape := ⟨3, ![768, 1, 96]⟩
abbrev S768x64x1 : Shape := ⟨3, ![768, 64, 1]⟩
abbrev S768x1x64 : Shape := ⟨3, ![768, 1, 64]⟩
abbrev S96x96x128 : Shape := ⟨3, ![96, 96, 128]⟩
abbrev S96x64x96 : Shape := ⟨3, ![96, 64, 96]⟩
abbrev S96x64x128 : Shape := ⟨3, ![96, 64, 128]⟩
abbrev S96x64x64 : Shape := ⟨3, ![96, 64, 64]⟩
abbrev S96x1x96 : Shape := ⟨3, ![96, 1, 96]⟩
abbrev S96x96x1 : Shape := ⟨3, ![96, 96, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x512x48x96, .f32⟩
  | .hbm, ⟨1, _⟩ => ⟨S2x512x48, .f32⟩
  | .hbm, ⟨2, _⟩ => ⟨S2x512x48x96, .f32⟩
  | .hbm, ⟨3, _⟩ => ⟨S2x512x48, .f32⟩
  | .hbm, ⟨4, _⟩ => ⟨S2x512x48x128, .bf16⟩
  | .hbm, ⟨5, _⟩ => ⟨S2x512x48x96, .f32⟩
  | .hbm, ⟨6, _⟩ => ⟨S2x512x48, .f32⟩
  | .hbm, ⟨7, _⟩ => ⟨S2x48x96x128, .f32⟩
  | .hbm, ⟨8, _⟩ => ⟨S2x512x48x96, .fp8e4m3⟩
  | .hbm, ⟨9, _⟩ => ⟨S2x512x48x96, .fp8e4m3⟩
  | .hbm, ⟨10, _⟩ => ⟨S2x512x6144, .bf16⟩
  | .hbm, ⟨11, _⟩ => ⟨S2x48x96x128, .f32⟩
  | .local _ .vmem, ⟨0, _⟩ => ⟨S2x512x48x96, .fp8e4m3⟩
  | .local _ .vmem, ⟨1, _⟩ => ⟨S2x512x48, .f32⟩
  | .local _ .vmem, ⟨2, _⟩ => ⟨S2x512x48x96, .fp8e4m3⟩
  | .local _ .vmem, ⟨3, _⟩ => ⟨S2x512x48, .f32⟩
  | .local _ .vmem, ⟨4, _⟩ => ⟨S2x512x48x128, .bf16⟩
  | .local _ .vmem, ⟨5, _⟩ => ⟨S2x512x48x96, .f32⟩
  | .local _ .vmem, ⟨6, _⟩ => ⟨S2x512x48, .f32⟩
  | .local _ .vmem, ⟨7, _⟩ => ⟨S2x48x96x128, .f32⟩
  | .local _ .vmem, ⟨8, _⟩ => ⟨S2x512x6144, .bf16⟩
  | .local _ .vmem, ⟨9, _⟩ => ⟨S2x48x96x128, .f32⟩
  | _, _ => ⟨S2x512x48x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x512x48x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x48x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x48x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x48x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x48x96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x48x96x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRun.lean ====
module

public import proofs.«01_k».proof.Proof.Gen.Kernel
public import Idealize.ShloMosaic.Lib.Tactic
public import Idealize.ShloMosaic.Lib.Pipeline.FrameBody

@[expose] public section

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The body at any grid point, from its operands' buffers held whole at any contents, runs to its return; the inputs'
    buffers are handed back as they were. -/
theorem bodyRun (c : Dev nD) (i : grid0.Coords)
    (arg2 : Memref sig .tc .vmem S1x64x48x96 .fp8e4m3) (harg2 : arg2.IsWhole)
    (arg3 : Memref sig .tc .vmem S1x64x48 .f32) (harg3 : arg3.IsWhole)
    (arg4 : Memref sig .tc .vmem S1x64x48x96 .fp8e4m3) (harg4 : arg4.IsWhole)
    (arg5 : Memref sig .tc .vmem S1x64x48 .f32) (harg5 : arg5.IsWhole)
    (arg6 : Memref sig .tc .vmem S1x64x48x128 .bf16) (harg6 : arg6.IsWhole)
    (arg7 : Memref sig .tc .vmem S1x64x48x96 .f32) (harg7 : arg7.IsWhole)
    (arg8 : Memref sig .tc .vmem S1x64x48 .f32) (harg8 : arg8.IsWhole)
    (arg9 : Memref sig .tc .vmem S1x48x96x128 .f32) (harg9 : arg9.IsWhole)
    (arg10 : Memref sig .tc .vmem S1x64x6144 .bf16) (harg10 : arg10.IsWhole)
    (arg11 : Memref sig .tc .vmem S1x48x96x128 .f32) (harg11 : arg11.IsWhole)
    (arg12 : Memref sig .tc .vmem S3328x128 .f32) (harg12 : arg12.IsWhole)
    (arg13 : Memref sig .tc .vmem S3328x128 .bf16) (harg13 : arg13.IsWhole)
    (arg14 : Memref sig .tc .vmem S3328x128 .bf16) (harg14 : arg14.IsWhole)
    (f0 : Bf (F := F) c arg2) (f1 : Bf (F := F) c arg3) (f2 : Bf (F := F) c arg4) (f3 : Bf (F := F) c arg5) (f4 : Bf (F := F) c arg6) (f5 : Bf (F := F) c arg7) (f6 : Bf (F := F) c arg8) (f7 : Bf (F := F) c arg9) (f8 : Bf (F := F) c arg10) (f9 : Bf (F := F) c arg11) (f10 : Bf (F := F) c arg12) (f11 : Bf (F := F) c arg13) (f12 : Bf (F := F) c arg14)
    (E : Set ℕ) (Q : PUnit → sProp 𝕄) :
    iprop(pt c arg2 f0 ∗ pt c arg3 f1 ∗ pt c arg4 f2 ∗ pt c arg5 f3 ∗ pt c arg6 f4 ∗ pt c arg7 f5 ∗ pt c arg8 f6 ∗ pt c arg9 f7 ∗ pt c arg10 f8 ∗ pt c arg11 f9 ∗ pt c arg12 f10 ∗ pt c arg13 f11 ∗ pt c arg14 f12
        ∗ (iprop(pt c arg2 f0 ∗ pt c arg3 f1 ∗ pt c arg4 f2 ∗ pt c arg5 f3 ∗ pt c arg6 f4 ∗ pt c arg7 f5 ∗ pt c arg8 f6 ∗ pt c arg9 f7 ∗ (∃ f, pt c arg10 f) ∗ (∃ f, pt c arg11 f) ∗ (∃ f, pt c arg12 f) ∗ (∃ f, pt c arg13 f) ∗ (∃ f, pt c arg14 f)) -∗ Q ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14) Q := by
  iintro ⟨H0, H1, H2, H3, H4, H5, H6, H7, H8, H9, H10, H11, H12, Hk⟩
  sl_exec_parts!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

end Cert.Kernel.Hand

end
-- ==== Proof.KernelFrame.lean ====
module

public import proofs.«01_k».proof.Proof.KernelRun
public import proofs.«01_k».proof.Proof.Gen.Kernel.Frame
public import Idealize.ShloMosaic.Lib.Claim

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0 (t : Fin cfg0.N) : Memref sig .tc .vmem S1x64x48x96 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x48 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x48x96 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x48 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x48x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64x48x96 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x48 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x48x96x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64x6144 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x48x96x128 .f32 := win0_9.stage (cfg0.slots t 9)
abbrev hs9 (t : Fin cfg0.N) : (ms9 t).IsWhole := hstage0_9 ((cfg0.slots t 9).cast nbuf0_9)

/-- The two result windows, whose contents the frame claim does not speak of. -/
def forgets : Fin 10 → Bool := fun w => w.val == 8 || w.val == 9

/-- The proof data: each argument's block stays in its buffer, the results and the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d))

set_option maxHeartbeats 3200000 in
/-- The body at any point, by its run from any contents of the results and the scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7]
  rw [show (dats m 0 c).Φ t.castSucc = Pipeline.ΦA spec0 c from rfl,
    show (dats m 0 c).Φ t.succ = Pipeline.ΦA spec0 c from rfl]
  unfold Pipeline.ΦA
  rw [scopedRest0_eq]
  unfold owns
  simp only [(hs0 t).set_eq_univ, (hs1 t).set_eq_univ, (hs2 t).set_eq_univ, (hs3 t).set_eq_univ, (hs4 t).set_eq_univ, (hs5 t).set_eq_univ, (hs6 t).set_eq_univ, (hs7 t).set_eq_univ, (hs8 t).set_eq_univ, (hs9 t).set_eq_univ]
  iintro ⟨⟨⟨⟨%s0, S0⟩, ⟨%s1, S1⟩, ⟨%s2, S2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (bodyRun c (grid0.coords t) _ _ _ _ _ _ _ _ _ _ _ _ _ _ _ _ _ _ _ _ _ _ _ _ _ _ f0 f1 f2 f3 f4 f5 f6 f7 f8 f9 s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, ⟨%g8, H8⟩, ⟨%g9, H9⟩, ⟨%g10, S0⟩, ⟨%g11, S1⟩, ⟨%g12, S2⟩⟩
  isplitl [S0 S1 S2 Hg]
  · isplitl [S0 S1 S2]
    · isplitl [S0]; · iexists _; iexact S0
      isplitl [S1]; · iexists _; iexact S1
      iexists _; iexact S2
    iexact Hg
  isplitl [Ho]; · iexact Ho
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _, _; isplitr; swap; · iexact H8
    ipureintro; rfl
  iexists _, _; isplitr; swap; · iexact H9
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch: the arguments unchanged and every semaphore counter at zero at every final state. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- An input array is at the end what it was when the region began. -/
theorem arr_in {r : PUnit × MemSt nD τ sig (Elt F)} (h : Pipeline.RDat.FramePost (cfgs 0) (fun c => (dats m 0 c).toRForget forgets) (V m) r)
    (c : Dev nD) (w : Fin 10) (hin : (cfg0.win w).isOut = false) :
    r.2.mem ((c.tc : Thread nD τ).loc (Pipeline.arrRef spec0 w)) = V m c (Pipeline.arrRef spec0 w) :=
  (Pipeline.RDat.FramePost.arr_in h c w hin).trans (A_eq m c w)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hq => ⟨fun c => have h := hq.1
    ⟨((h c).2 main_arg0 (Pipeline.mem_restRefs_of main_arg0 (by decide) (by decide))).trans (V_main_arg0 m c),
      (arr_in m h c 1 rfl).trans (V_main_arg1 m c),
      ((h c).2 main_arg2 (Pipeline.mem_restRefs_of main_arg2 (by decide) (by decide))).trans (V_main_arg2 m c),
      (arr_in m h c 3 rfl).trans (V_main_arg3 m c),
      (arr_in m h c 4 rfl).trans (V_main_arg4 m c),
      (arr_in m h c 5 rfl).trans (V_main_arg5 m c),
      (arr_in m h c 6 rfl).trans (V_main_arg6 m c),
      (arr_in m h c 7 rfl).trans (V_main_arg7 m c)⟩, hq.2⟩)
    (run_main_quiescent m ρ)

end Cert.Kernel.Hand

end
-- ==== Proof.KernelIdealRun.lean ====
module

public import proofs.«01_k».proof.Proof.Gen.KernelIdeal
public import Idealize.ShloMosaic.Lib.Tactic
public import Idealize.ShloMosaic.Lib.Pipeline.FrameBody

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The body at any grid point, from its operands' buffers held whole at any contents: what it leaves in the results'
    buffers and in the scratch buffers, with the proof that it runs to its return leaving that. -/
def bodyRun (c : Dev nD) (i : grid0.Coords)
    (arg2 : Memref sig .tc .vmem S1x64x48x96 .fp8e4m3) (harg2 : arg2.IsWhole)
    (arg3 : Memref sig .tc .vmem S1x64x48 .f32) (harg3 : arg3.IsWhole)
    (arg4 : Memref sig .tc .vmem S1x64x48x96 .fp8e4m3) (harg4 : arg4.IsWhole)
    (arg5 : Memref sig .tc .vmem S1x64x48 .f32) (harg5 : arg5.IsWhole)
    (arg6 : Memref sig .tc .vmem S1x64x48x128 .bf16) (harg6 : arg6.IsWhole)
    (arg7 : Memref sig .tc .vmem S1x64x48x96 .f32) (harg7 : arg7.IsWhole)
    (arg8 : Memref sig .tc .vmem S1x64x48 .f32) (harg8 : arg8.IsWhole)
    (arg9 : Memref sig .tc .vmem S1x48x96x128 .f32) (harg9 : arg9.IsWhole)
    (arg10 : Memref sig .tc .vmem S1x64x6144 .bf16) (harg10 : arg10.IsWhole)
    (arg11 : Memref sig .tc .vmem S1x48x96x128 .f32) (harg11 : arg11.IsWhole)
    (arg12 : Memref sig .tc .vmem S3328x128 .f32) (harg12 : arg12.IsWhole)
    (arg13 : Memref sig .tc .vmem S3328x128 .bf16) (harg13 : arg13.IsWhole)
    (arg14 : Memref sig .tc .vmem S3328x128 .bf16) (harg14 : arg14.IsWhole)
    (f0 : Bf (F := F) c arg2) (f1 : Bf (F := F) c arg3) (f2 : Bf (F := F) c arg4) (f3 : Bf (F := F) c arg5) (f4 : Bf (F := F) c arg6) (f5 : Bf (F := F) c arg7) (f6 : Bf (F := F) c arg8) (f7 : Bf (F := F) c arg9) (f8 : Bf (F := F) c arg10) (f9 : Bf (F := F) c arg11) (f10 : Bf (F := F) c arg12) (f11 : Bf (F := F) c arg13) (f12 : Bf (F := F) c arg14) :
    { W : Bf (F := F) c arg10 × Bf (F := F) c arg11 × Bf (F := F) c arg12 × Bf (F := F) c arg13 × Bf (F := F) c arg14 //
      ∀ (E : Set ℕ) (Q : PUnit → sProp 𝕄),
        iprop(pt c arg2 f0 ∗ pt c arg3 f1 ∗ pt c arg4 f2 ∗ pt c arg5 f3 ∗ pt c arg6 f4 ∗ pt c arg7 f5 ∗ pt c arg8 f6 ∗ pt c arg9 f7 ∗ pt c arg10 f8 ∗ pt c arg11 f9 ∗ pt c arg12 f10 ∗ pt c arg13 f11 ∗ pt c arg14 f12
            ∗ (iprop(pt c arg2 f0 ∗ pt c arg3 f1 ∗ pt c arg4 f2 ∗ pt c arg5 f3 ∗ pt c arg6 f4 ∗ pt c arg7 f5 ∗ pt c arg8 f6 ∗ pt c arg9 f7 ∗ pt c arg10 W.1 ∗ pt c arg11 W.2.1 ∗ pt c arg12 W.2.2.1 ∗ pt c arg13 W.2.2.2.1 ∗ pt c arg14 W.2.2.2.2) -∗ Q ⟨⟩))
          ⊢ wp frame (wpE (defs₀ (F := F)) Variants.none c none) E
              (cc0__body i arg2 harg2 arg3 harg3 arg4 harg4 arg5 harg5 arg6 harg6 arg7 harg7 arg8 harg8 arg9 harg9 arg10 harg10 arg11 harg11 arg12 harg12 arg13 harg13 arg14 harg14) Q } := by
  refine ⟨⟨?_, ?_, ?_, ?_, ?_⟩, fun E Q => ?run⟩
  case run =>
    iintro ⟨H0, H1, H2, H3, H4, H5, H6, H7, H8, H9, H10, H11, H12, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Hand

end
-- ==== Proof.KernelIdealFrame.lean ====
module

public import proofs.«01_k».proof.Proof.KernelIdealRun
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0 (t : Fin cfg0.N) : Memref sig .tc .vmem S1x64x48x96 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x48 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x48x96 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x48 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x48x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64x48x96 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x48 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x48x96x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64x6144 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x48x96x128 .f32 := win0_9.stage (cfg0.slots t 9)
abbrev hs9 (t : Fin cfg0.N) : (ms9 t).IsWhole := hstage0_9 ((cfg0.slots t 9).cast nbuf0_9)

/-- The two result windows, whose contents the frame claim does not speak of. -/
def forgets : Fin 10 → Bool := fun w => w.val == 8 || w.val == 9

/-- The proof data: each argument's block stays in its buffer, the results and the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d))

set_option maxHeartbeats 3200000 in
/-- The body at any point, by its run from any contents of the results and the scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7]
  rw [show (dats m 0 c).Φ t.castSucc = Pipeline.ΦA spec0 c from rfl,
    show (dats m 0 c).Φ t.succ = Pipeline.ΦA spec0 c from rfl]
  unfold Pipeline.ΦA
  rw [scopedRest0_eq]
  unfold owns
  simp only [(hs0 t).set_eq_univ, (hs1 t).set_eq_univ, (hs2 t).set_eq_univ, (hs3 t).set_eq_univ, (hs4 t).set_eq_univ, (hs5 t).set_eq_univ, (hs6 t).set_eq_univ, (hs7 t).set_eq_univ, (hs8 t).set_eq_univ, (hs9 t).set_eq_univ]
  iintro ⟨⟨⟨⟨%s0, S0⟩, ⟨%s1, S1⟩, ⟨%s2, S2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply ((bodyRun c (grid0.coords t) _ _ _ _ _ _ _ _ _ _ _ _ _ _ _ _ _ _ _ _ _ _ _ _ _ _ f0 f1 f2 f3 f4 f5 f6 f7 f8 f9 s0 s1 s2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]; · iexists _; iexact S0
      isplitl [S1]; · iexists _; iexact S1
      iexists _; iexact S2
    iexact Hg
  isplitl [Ho]; · iexact Ho
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _, _; isplitr; swap; · iexact H8
    ipureintro; rfl
  iexists _, _; isplitr; swap; · iexact H9
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch: the arguments unchanged and every semaphore counter at zero at every final state. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- An input array is at the end what it was when the region began. -/
theorem arr_in {r : PUnit × MemSt nD τ sig (Elt F)} (h : Pipeline.RDat.FramePost (cfgs 0) (fun c => (dats m 0 c).toRForget forgets) (V m) r)
    (c : Dev nD) (w : Fin 10) (hin : (cfg0.win w).isOut = false) :
    r.2.mem ((c.tc : Thread nD τ).loc (Pipeline.arrRef spec0 w)) = V m c (Pipeline.arrRef spec0 w) :=
  (Pipeline.RDat.FramePost.arr_in h c w hin).trans (A_eq m c w)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hq => ⟨fun c => have h := hq.1
    ⟨((h c).2 main_arg0 (Pipeline.mem_restRefs_of main_arg0 (by decide) (by decide))).trans (V_main_arg0 m c),
      (arr_in m h c 1 rfl).trans (V_main_arg1 m c),
      ((h c).2 main_arg2 (Pipeline.mem_restRefs_of main_arg2 (by decide) (by decide))).trans (V_main_arg2 m c),
      (arr_in m h c 3 rfl).trans (V_main_arg3 m c),
      (arr_in m h c 4 rfl).trans (V_main_arg4 m c),
      (arr_in m h c 5 rfl).trans (V_main_arg5 m c),
      (arr_in m h c 6 rfl).trans (V_main_arg6 m c),
      (arr_in m h c 7 rfl).trans (V_main_arg7 m c)⟩, hq.2⟩)
    (run_main_quiescent m ρ)

end Cert.KernelIdeal.Hand

end
-- ==== Proof.Head.lean ====
module

public import proofs.«01_k».proof.Proof.Gen.KernelIdeal
public import Idealize.ShloMosaic.Lib.Tactic

@[expose] public section

noncomputable section

namespace Cert.KernelIdeal.Hand

open Cert.KernelIdeal Cert.KernelIdeal.Gen Cert.KernelIdeal.Facts Idealize.ShloMosaic

variable {F : FTy → Type} [FloatOps F]

/-! One head of the body, operation for operation, as functions of what the head reads: the running sum `gc` of the gates, the
    code rows `kb` and `qb`, the scale columns, the values `v` and the state `s`. -/

/-- The rest of `x` after its bfloat16 part. -/
def rest {s : Shape} (x : FVec F s .f32) : FVec F s .f32 := subf x (extf .f32 (truncf .bf16 x bitsLt_bf16_f32) bitsLt_bf16_f32)

/-- The high, middle and low bfloat16 parts of `x`. -/
def hi {s : Shape} (x : FVec F s .f32) : FVec F s .bf16 := truncf .bf16 x bitsLt_bf16_f32
def mid {s : Shape} (x : FVec F s .f32) : FVec F s .bf16 := truncf .bf16 (rest x) bitsLt_bf16_f32
def low {s : Shape} (x : FVec F s .f32) : FVec F s .bf16 := truncf .bf16 (rest (rest x)) bitsLt_bf16_f32

/-- The six leading part products laid along the contracted axis: the left factor. -/
def sixL (a : FVec F S64x64 .f32) : FVec F S64x384 .bf16 :=
  concatenate S64x384 1 [⟨S64x64, hi a⟩, ⟨S64x64, mid a⟩, ⟨S64x64, low a⟩, ⟨S64x64, hi a⟩, ⟨S64x64, hi a⟩, ⟨S64x64, mid a⟩]
    concatenates_S64x64_S64x64_S64x64_S64x64_S64x64_S64x64_S64x384_d1

/-- A 64×64 by 64×64 product of six part products. -/
def dotSq (a b : FVec F S64x64 .f32) : FVec F S64x64 .f32 :=
  matmul dot_S64x384_S384x64_S64x64_1_0_0_1_n_n none (sixL a)
    (concatenate S384x64 0 [⟨S64x64, hi b⟩, ⟨S64x64, hi b⟩, ⟨S64x64, hi b⟩, ⟨S64x64, mid b⟩, ⟨S64x64, low b⟩, ⟨S64x64, mid b⟩]
      concatenates_S64x64_S64x64_S64x64_S64x64_S64x64_S64x64_S384x64_d0)
    (constant S64x64 .f32 0x00000000#32)

/-- A 64×64 by 64×128 product of six part products. -/
def dotVal (a : FVec F S64x64 .f32) (b : FVec F S64x128 .f32) : FVec F S64x128 .f32 :=
  matmul dot_S64x384_S384x128_S64x128_1_0_0_1_n_n none (sixL a)
    (concatenate S384x128 0 [⟨S64x128, hi b⟩, ⟨S64x128, hi b⟩, ⟨S64x128, hi b⟩, ⟨S64x128, mid b⟩, ⟨S64x128, low b⟩, ⟨S64x128, mid b⟩]
      concatenates_S64x128_S64x128_S64x128_S64x128_S64x128_S64x128_S384x128_d0)
    (constant S64x128 .f32 0x00000000#32)

/-- Row and column numbers of a 64×64 matrix. -/
def rowI : IVec S64x64 32 := iota .tc S64x64 32 [0] iota_S64x64_d0_w32
def colI : IVec S64x64 32 := iota .tc S64x64 32 [1] iota_S64x64_d1_w32

/-- `x / b` rounded down, as the program spells it. -/
def floorDiv (x : IVec S64x64 32) (b : BitVec 32) : IVec S64x64 32 :=
  select
    (andi
      (cmpi .ne
        (subi (extui 32 (cmpi .sgt x (broadcast S64x64 0#32)) natLt_1_32) (extui 32 (cmpi .slt x (broadcast S64x64 0#32)) natLt_1_32))
        (broadcast S64x64 (Scalar.subi (Scalar.extui (Scalar.cmpi .sgt b 0#32)) (Scalar.extui (Scalar.cmpi .slt b 0#32)))))
      (cmpi .ne (remsi x (broadcast S64x64 b)) (broadcast S64x64 0#32)))
    (subi (divsi x (broadcast S64x64 b)) (broadcast S64x64 1#32))
    (divsi x (broadcast S64x64 b))

/-- Entries below the diagonal between the two halves of a block of `2 b` rows. -/
def offMask (b : BitVec 32) (b2 : BitVec 32) : IVec S64x64 1 :=
  andi (cmpi .eq (floorDiv rowI b2) (floorDiv colI b2)) (cmpi .sgt (floorDiv rowI b) (floorDiv colI b))

/-- The zero matrix the program selects from. -/
def zeroSq : FVec F S64x64 .f32 := broadcast S64x64 (Scalar.ofBits .f32 0x00000000#32)

/-- One doubling step of the inverse: blocks of `b` rows inverted become blocks of `2 b`. -/
def invStep (b b2 : BitVec 32) (akk t : FVec F S64x64 .f32) : FVec F S64x64 .f32 :=
  subf t (dotSq t (dotSq (select (offMask b b2) akk zeroSq) t))

/-- The identity matrix. -/
def eyeSq : FVec F S64x64 .f32 :=
  select (cmpi .eq rowI colI) (broadcast S64x64 (Scalar.ofBits .f32 0x3F800000#32)) (broadcast S64x64 (Scalar.ofBits .f32 0x00000000#32))

/-- The inverse of `1 + akk`. -/
def inverse (akk : FVec F S64x64 .f32) : FVec F S64x64 .f32 :=
  invStep 32#32 64#32 akk (invStep 16#32 32#32 akk (invStep 8#32 16#32 akk (invStep 4#32 8#32 akk (invStep 2#32 4#32 akk (invStep 1#32 2#32 akk eyeSq)))))

/-- The codes times `exp gc`, `exp (-gc)` and `exp (gl - gc)`, `gl` the last row of `gc`. -/
def grown (gc : FVec F S64x128 .f32) (x : FVec F S64x128 .bf16) : FVec F S64x128 .bf16 := mulf x (truncf .bf16 (exp gc) bitsLt_bf16_f32)
def shrunk (gc : FVec F S64x128 .f32) (x : FVec F S64x128 .bf16) : FVec F S64x128 .bf16 :=
  mulf x (truncf .bf16 (exp (subf (broadcast S64x128 (Scalar.ofBits .f32 0x00000000#32)) gc)) bitsLt_bf16_f32)
def lastRow (gc : FVec F S64x128 .f32) : FVec F S1x128 .f32 := extractStridedSlice S1x128 ![63, 0] gc slices_S64x128_o63_0_S1x128
def left (gc : FVec F S64x128 .f32) (x : FVec F S64x128 .bf16) : FVec F S64x128 .bf16 :=
  mulf x (truncf .bf16 (exp (subf (broadcastTo S64x128 (lastRow gc) broadcasts_S1x128_S64x128) gc)) bitsLt_bf16_f32)

/-- The grown rows of the keys, then of the queries. -/
def stacked (gc : FVec F S64x128 .f32) (kb qb : FVec F S64x128 .bf16) : FVec F S128x128 .bf16 :=
  concatenate S128x128 0 [⟨S64x128, grown gc kb⟩, ⟨S64x128, grown gc qb⟩] concatenates_S64x128_S64x128_S128x128_d0

/-- Every grown row against every shrunk key. -/
def scores (gc : FVec F S64x128 .f32) (kb qb : FVec F S64x128 .bf16) : FVec F S128x64 .f32 :=
  matmul dot_S128x128_S64x128_S128x64_1_1_0_0_n_n none (stacked gc kb qb) (shrunk gc kb) (constant S128x64 .f32 0x00000000#32)

/-- The strictly lower part of the key scores, rows scaled by `c`. -/
def keyPart (gc : FVec F S64x128 .f32) (kb qb : FVec F S64x128 .bf16) (c : FVec F S64x1 .f32) : FVec F S64x64 .f32 :=
  select (cmpi .sgt rowI colI)
    (mulf (broadcastTo S64x64 c broadcasts_S64x1_S64x64) (extractStridedSlice S64x64 ![0, 0] (scores gc kb qb) slices_S128x64_o0_0_S64x64))
    zeroSq

/-- The lower part of the query scores. -/
def queryPart (gc : FVec F S64x128 .f32) (kb qb : FVec F S64x128 .bf16) : FVec F S64x64 .f32 :=
  select (cmpi .sge rowI colI) (extractStridedSlice S64x64 ![64, 0] (scores gc kb qb) slices_S128x64_o64_0_S64x64) zeroSq

/-- The grown rows against the state, the state in three parts. -/
def onState (gc : FVec F S64x128 .f32) (kb qb : FVec F S64x128 .bf16) (s : FVec F S96x128 .f32) : FVec F S128x128 .f32 :=
  matmul dot_S128x384_S384x128_S128x128_1_0_0_1_n_n none
    (concatenate S128x384 1 [⟨S128x128, stacked gc kb qb⟩, ⟨S128x128, stacked gc kb qb⟩, ⟨S128x128, stacked gc kb qb⟩]
      concatenates_S128x128_S128x128_S128x128_S128x384_d1)
    (concatenate S384x128 0
      [⟨S96x128, hi s⟩, ⟨S32x128, broadcast S32x128 (Scalar.ofBits .bf16 0x0000#16)⟩, ⟨S96x128, mid s⟩,
        ⟨S32x128, broadcast S32x128 (Scalar.ofBits .bf16 0x0000#16)⟩, ⟨S96x128, low s⟩,
        ⟨S32x128, broadcast S32x128 (Scalar.ofBits .bf16 0x0000#16)⟩]
      concatenates_S96x128_S32x128_S96x128_S32x128_S96x128_S32x128_S384x128_d0)
    (constant S128x128 .f32 0x00000000#32)

/-- The delta-rule corrections of the chunk. -/
def delta (gc : FVec F S64x128 .f32) (kb qb : FVec F S64x128 .bf16) (a c : FVec F S64x1 .f32) (v : FVec F S64x128 .bf16)
    (s : FVec F S96x128 .f32) : FVec F S64x128 .f32 :=
  dotVal (inverse (keyPart gc kb qb c))
    (subf (mulf (broadcastTo S64x128 a broadcasts_S64x1_S64x128) (extf .f32 v bitsLt_bf16_f32))
      (mulf (broadcastTo S64x128 c broadcasts_S64x1_S64x128)
        (extractStridedSlice S64x128 ![0, 0] (onState gc kb qb s) slices_S128x128_o0_0_S64x128)))

/-- The head's output rows. -/
def headOut (gc : FVec F S64x128 .f32) (kb qb : FVec F S64x128 .bf16) (a c qs : FVec F S64x1 .f32) (v : FVec F S64x128 .bf16)
    (s : FVec F S96x128 .f32) : FVec F S64x128 .bf16 :=
  truncf .bf16
    (mulf (broadcast S64x128 (Scalar.ofBits .f32 0x3DD105EC#32))
      (mulf (broadcastTo S64x128 qs broadcasts_S64x1_S64x128)
        (addf (extractStridedSlice S64x128 ![64, 0] (onState gc kb qb s) slices_S128x128_o64_0_S64x128)
          (dotVal (queryPart gc kb qb) (delta gc kb qb a c v s))))) bitsLt_bf16_f32

/-- The corrections written into the state: the left keys against them. -/
def written (gc : FVec F S64x128 .f32) (kb : FVec F S64x128 .bf16) (u : FVec F S64x128 .f32) : FVec F S128x128 .f32 :=
  matmul dot_S128x192_S192x128_S128x128_1_0_0_1_n_n none
    (concatenate S128x192 1
      [⟨S128x64, transpose S128x64 [1, 0] (left gc kb) transposes_S64x128_p1_0_S128x64⟩,
        ⟨S128x64, transpose S128x64 [1, 0] (left gc kb) transposes_S64x128_p1_0_S128x64⟩,
        ⟨S128x64, transpose S128x64 [1, 0] (left gc kb) transposes_S64x128_p1_0_S128x64⟩]
      concatenates_S128x64_S128x64_S128x64_S128x192_d1)
    (concatenate S192x128 0 [⟨S64x128, hi u⟩, ⟨S64x128, mid u⟩, ⟨S64x128, low u⟩] concatenates_S64x128_S64x128_S64x128_S192x128_d0)
    (constant S128x128 .f32 0x00000000#32)

/-- The state the head leaves. -/
def headState (gc : FVec F S64x128 .f32) (kb qb : FVec F S64x128 .bf16) (a c : FVec F S64x1 .f32) (v : FVec F S64x128 .bf16)
    (s : FVec F S96x128 .f32) : FVec F S96x128 .f32 :=
  addf
    (mulf
      (broadcastTo S96x128
        (extractStridedSlice S96x1 ![0, 0] (shapeCast S128x1 (exp (lastRow gc)) shapeCasts_S1x128_S128x1) slices_S128x1_o0_0_S96x1)
        broadcasts_S96x1_S96x128) s)
    (extractStridedSlice S96x128 ![0, 0] (written gc kb (delta gc kb qb a c v s)) slices_S128x128_o0_0_S96x128)

end Cert.KernelIdeal.Hand

end
-- ==== Proof.Reads.lean ====
module

public import proofs.«01_k».proof.Proof.KernelIdealRun
public import proofs.«01_k».proof.Proof.Head

@[expose] public section

set_option maxRecDepth 16384

noncomputable section

namespace Cert.KernelIdeal.Hand

open Cert.KernelIdeal Cert.KernelIdeal.Gen Cert.KernelIdeal.Facts Idealize.ShloMosaic

variable {F : FTy → Type} [FloatOps F]

/-! What the body's run leaves in the two results, head by head in the terms of `Head`. -/

theorem gcInb (h : Fin 48) : ∀ a, S64x128.size a = 0 ∨ (![h.val, 0] : Fin 2 → Nat) a + (![52, 1] : Fin 2 → Nat) a * (S64x128.size a - 1) < S3328x128.size a := by
  revert h; decide

theorem codeInb (h : Fin 48) : ∀ a, S32x2x128.size a = 0 ∨ (![h.val, 0, 0] : Fin 3 → Nat) a + (![52, 1, 1] : Fin 3 → Nat) a * (S32x2x128.size a - 1) < S1664x2x128.size a := by
  revert h; decide

theorem colInb (h : Fin 48) : S64x48.Slices ![0, h.val] S64x1 := by
  revert h; decide

theorem stateInb (h : Fin 48) : ∀ a, (![0, h.val, 0, 0] : Fin 4 → Nat) a + S1x1x96x128.size a ≤ S1x48x96x128.size a := by
  revert h; decide

theorem valInb (h : Fin 48) : ∀ a, (![0, 0, h.val, 0] : Fin 4 → Nat) a + S1x64x1x128.size a ≤ S1x64x48x128.size a := by
  revert h; decide

theorem outInb (h : Fin 48) : ∀ a, (![0, 0, 128 * h.val] : Fin 3 → Nat) a + S1x64x128.size a ≤ S1x64x6144.size a := by
  revert h; decide

/-- The cleared scratches. -/
def zero12 : FVec F S3328x128 .f32 := shapeCast S3328x128 (broadcast S3328x128 (Scalar.ofBits .f32 0x00000000#32)) shapeCasts_S3328x128_S3328x128
def zero13 : FVec F S3328x128 .bf16 := shapeCast S3328x128 (broadcast S3328x128 (Scalar.ofBits .bf16 0x0000#16)) shapeCasts_S3328x128_S3328x128

variable (c : Dev nD)

/-- Head `h`'s running sums: rows `h`, `h + 52`, … of the scratch. -/
def gcRead (h : Fin 48) (arg12 : Memref sig .tc .vmem S3328x128 .f32) (g : Bf (F := F) c arg12) : FVec F S64x128 .f32 :=
  View.readAt (Elt F) arg12.view ⟨![h.val, 0], S64x128.size, ![52, 1], gcInb h⟩ g

/-- Head `h`'s code rows, two to a word. -/
def codeRead (h : Fin 48) (arg13 : Memref sig .tc .vmem S3328x128 .bf16) (harg13 : arg13.IsWhole) (g : Bf (F := F) c arg13) : FVec F S64x128 .bf16 :=
  interleaveRows S64x128
    (shapeCast S32x128 (rowsOfParity 0 S32x1x128
      (View.readAt (Elt F) (arg13.reshape S1664x2x128 reshapes_S3328x128_S1664x2x128.1 reshapes_S3328x128_S1664x2x128.2 harg13.contiguous).view
        ⟨![h.val, 0, 0], S32x2x128.size, ![52, 1, 1], codeInb h⟩ g) bitcasts_S32x2x128_w16_S32x1x128_w32) shapeCasts_S32x1x128_S32x128)
    (shapeCast S32x128 (rowsOfParity 1 S32x1x128
      (View.readAt (Elt F) (arg13.reshape S1664x2x128 reshapes_S3328x128_S1664x2x128.1 reshapes_S3328x128_S1664x2x128.2 harg13.contiguous).view
        ⟨![h.val, 0, 0], S32x2x128.size, ![52, 1, 1], codeInb h⟩ g) bitcasts_S32x2x128_w16_S32x1x128_w32) shapeCasts_S32x1x128_S32x128)
    bitcasts_S64x128_w16_S32x128_w32

/-- A block of one number per position and head. -/
def perHead (arg5 : Memref sig .tc .vmem S1x64x48 .f32) (f3 : Bf (F := F) c arg5) : FVec F S64x48 .f32 :=
  shapeCast S64x48 (View.readAt (Elt F) arg5.view (Rect.unit ![0, 0, 0] S1x64x48.size inb_S1x64x48_S1x64x48_0_0_0).toLoadRect f3) shapeCasts_S1x64x48_S64x48

/-- Head `h`'s column of `ks · beta`, of `ks · (ks · beta)` and of `qs`. -/
def aCol (h : Fin 48) (bt ks : FVec F S64x48 .f32) : FVec F S64x1 .f32 := extractStridedSlice S64x1 ![0, h.val] (mulf ks bt) (colInb h)
def cCol (h : Fin 48) (bt ks : FVec F S64x48 .f32) : FVec F S64x1 .f32 := extractStridedSlice S64x1 ![0, h.val] (mulf ks (mulf ks bt)) (colInb h)
def qCol (h : Fin 48) (qs : FVec F S64x48 .f32) : FVec F S64x1 .f32 := extractStridedSlice S64x1 ![0, h.val] qs (colInb h)

/-- Head `h`'s values. -/
def valRead (h : Fin 48) (arg6 : Memref sig .tc .vmem S1x64x48x128 .bf16) (f4 : Bf (F := F) c arg6) : FVec F S64x128 .bf16 :=
  shapeCast S64x128 (View.readAt (Elt F) arg6.view (Rect.unit (s := S1x64x48x128) ![0, 0, h.val, 0] S1x64x1x128.size (valInb h)).toLoadRect f4) shapeCasts_S1x64x1x128_S64x128

/-- Head `h`'s state, out of the contents of the state block. -/
def stateRead (h : Fin 48) (arg11 : Memref sig .tc .vmem S1x48x96x128 .f32) (g : Bf (F := F) c arg11) : FVec F S96x128 .f32 :=
  shapeCast S96x128 (View.readAt (Elt F) arg11.view (Rect.unit (s := S1x48x96x128) ![0, h.val, 0, 0] S1x1x96x128.size (stateInb h)).toLoadRect g) shapeCasts_S1x1x96x128_S96x128

/-- Head `h`'s piece of the states left, and of the outputs. -/
def statePiece (h : Fin 48) (p : FVec F S96x128 .f32) : View.Piece (Elt F) S1x48x96x128 .f32 :=
  ⟨Rect.unit ![0, h.val, 0, 0] S1x1x96x128.size (stateInb h), shapeCast S1x1x96x128 p shapeCasts_S96x128_S1x1x96x128⟩
def outPiece (h : Fin 48) (p : FVec F S64x128 .bf16) : View.Piece (Elt F) S1x64x6144 .bf16 :=
  ⟨Rect.unit ![0, 0, 128 * h.val] S1x64x128.size (outInb h), shapeCast S1x64x128 p shapeCasts_S64x128_S1x64x128⟩

section
variable (i : grid0.Coords)
    (arg2 : Memref sig .tc .vmem S1x64x48x96 .fp8e4m3) (harg2 : arg2.IsWhole)
    (arg3 : Memref sig .tc .vmem S1x64x48 .f32) (harg3 : arg3.IsWhole)
    (arg4 : Memref sig .tc .vmem S1x64x48x96 .fp8e4m3) (harg4 : arg4.IsWhole)
    (arg5 : Memref sig .tc .vmem S1x64x48 .f32) (harg5 : arg5.IsWhole)
    (arg6 : Memref sig .tc .vmem S1x64x48x128 .bf16) (harg6 : arg6.IsWhole)
    (arg7 : Memref sig .tc .vmem S1x64x48x96 .f32) (harg7 : arg7.IsWhole)
    (arg8 : Memref sig .tc .vmem S1x64x48 .f32) (harg8 : arg8.IsWhole)
    (arg9 : Memref sig .tc .vmem S1x48x96x128 .f32) (harg9 : arg9.IsWhole)
    (arg10 : Memref sig .tc .vmem S1x64x6144 .bf16) (harg10 : arg10.IsWhole)
    (arg11 : Memref sig .tc .vmem S1x48x96x128 .f32) (harg11 : arg11.IsWhole)
    (arg12 : Memref sig .tc .vmem S3328x128 .f32) (harg12 : arg12.IsWhole)
    (arg13 : Memref sig .tc .vmem S3328x128 .bf16) (harg13 : arg13.IsWhole)
    (arg14 : Memref sig .tc .vmem S3328x128 .bf16) (harg14 : arg14.IsWhole)
    (f0 : Bf (F := F) c arg2) (f1 : Bf (F := F) c arg3) (f2 : Bf (F := F) c arg4) (f3 : Bf (F := F) c arg5) (f4 : Bf (F := F) c arg6) (f5 : Bf (F := F) c arg7) (f6 : Bf (F := F) c arg8) (f7 : Bf (F := F) c arg9) (f8 : Bf (F := F) c arg10) (f9 : Bf (F := F) c arg11) (f10 : Bf (F := F) c arg12) (f11 : Bf (F := F) c arg13) (f12 : Bf (F := F) c arg14)

/-- The run leaves something in each of the five written buffers. -/
abbrev run := (bodyRun c i arg2 harg2 arg3 harg3 arg4 harg4 arg5 harg5 arg6 harg6 arg7 harg7 arg8 harg8 arg9 harg9 arg10 harg10 arg11 harg11 arg12 harg12 arg13 harg13 arg14 harg14 f0 f1 f2 f3 f4 f5 f6 f7 f8 f9 f10 f11 f12).1

/-- The state block's contents the heads start from: the initial state at a sequence's first chunk, else what was there. -/
def stateStart : Bf (F := F) c arg11 :=
  if hc : bodyRun.sl.v2 i = 1#1 then
    arg11.view.writes (Elt F) f9 [⟨Rect.unit ![0, 0, 0, 0] S1x48x96x128.size inb_S1x48x96x128_S1x48x96x128_0_0_0_0,
      View.readAt (Elt F) arg9.view (Rect.unit ![0, 0, 0, 0] S1x48x96x128.size inb_S1x48x96x128_S1x48x96x128_0_0_0_0).toLoadRect f7⟩]
  else f9

/-- What head `h` leaves of its state. -/
def stateOf (G12 : Bf (F := F) c arg12) (G13 : Bf (F := F) c arg13) (G14 : Bf (F := F) c arg14) (h : Fin 48) : FVec F S96x128 .f32 :=
  headState (gcRead c h arg12 G12) (codeRead c h arg13 harg13 G13) (codeRead c h arg14 harg14 G14)
    (aCol h (perHead c arg8 f6) (perHead c arg5 f3)) (cCol h (perHead c arg8 f6) (perHead c arg5 f3)) (valRead c h arg6 f4)
    (stateRead c h arg11 (stateStart c i arg9 arg11 f7 f9))

/-- What head `h` gives. -/
def outOf (G12 : Bf (F := F) c arg12) (G13 : Bf (F := F) c arg13) (G14 : Bf (F := F) c arg14) (h : Fin 48) : FVec F S64x128 .bf16 :=
  headOut (gcRead c h arg12 G12) (codeRead c h arg13 harg13 G13) (codeRead c h arg14 harg14 G14)
    (aCol h (perHead c arg8 f6) (perHead c arg5 f3)) (cCol h (perHead c arg8 f6) (perHead c arg5 f3)) (qCol h (perHead c arg3 f1)) (valRead c h arg6 f4)
    (stateRead c h arg11 (stateStart c i arg9 arg11 f7 f9))

/-- The three scratches as the heads find them: cleared at a sequence's first chunk, then stored row by row. -/
def scr12 : Bf (F := F) c arg12 :=
  arg12.view.writes (Elt F) (if hc : bodyRun.sl.v2 i = 1#1 then arg12.view.writes (Elt F) f10 [⟨Rect.unit ![0, 0] S3328x128.size inb_S3328x128_S3328x128_0_0, zero12⟩] else f10)
    (bodyRun.sl.H10_64 c arg7 f5)
def scr13 : Bf (F := F) c arg13 :=
  arg13.view.writes (Elt F) (if hc : bodyRun.sl.v2 i = 1#1 then arg13.view.writes (Elt F) f11 [⟨Rect.unit ![0, 0] S3328x128.size inb_S3328x128_S3328x128_0_0, zero13⟩] else f11)
    (bodyRun.sl.H11_32 c arg4 f2)
def scr14 : Bf (F := F) c arg14 :=
  arg14.view.writes (Elt F) (if hc : bodyRun.sl.v2 i = 1#1 then arg14.view.writes (Elt F) f12 [⟨Rect.unit ![0, 0] S3328x128.size inb_S3328x128_S3328x128_0_0, zero13⟩] else f12)
    (bodyRun.sl.H12_32 c arg2 f0)

/-- The same three scratches, all at once. -/
abbrev ST := stateOf c i arg5 arg6 arg8 arg9 arg11 arg12 arg13 harg13 arg14 harg14 f3 f4 f6 f7 f9 (scr12 c i arg7 arg12 f5 f10) (scr13 c i arg4 arg13 f2 f11) (scr14 c i arg2 arg14 f0 f12)
abbrev OU := outOf c i arg3 arg5 arg6 arg8 arg9 arg11 arg12 arg13 harg13 arg14 harg14 f1 f3 f4 f6 f7 f9 (scr12 c i arg7 arg12 f5 f10) (scr13 c i arg4 arg13 f2 f11) (scr14 c i arg2 arg14 f0 f12)

/-! ## The stores as lists over the row, the row pair and the head -/

/-- Entries `n - 1`, …, `0` of a family. -/
def below {α : Type} {N : ℕ} (f : Fin N → α) : (n : ℕ) → n ≤ N → List α
  | 0, _ => []
  | n + 1, h => f ⟨n, h⟩ :: below f n (Nat.le_of_succ_le h)

theorem mem_below {α : Type} {N : ℕ} (f : Fin N → α) (p : α) : ∀ (n : ℕ) (h : n ≤ N), p ∈ below f n h ↔ ∃ k : Fin N, k.val < n ∧ f k = p
  | 0, _ => by simp [below]
  | n + 1, h => by
    rw [below, List.mem_cons, mem_below f p n]
    constructor
    · rintro (rfl | ⟨k, hk, rfl⟩)
      · exact ⟨⟨n, h⟩, by simp, rfl⟩
      · exact ⟨k, by omega, rfl⟩
    · rintro ⟨k, hk, rfl⟩
      by_cases e : k.val = n
      · left; congr; exact Fin.ext e
      · right; exact ⟨k, by omega, rfl⟩

theorem cons_eq {α : Type} {p q : α} {l l' : List α} (e : p = q) (el : l = l') : p :: l = q :: l' := by rw [e, el]

theorem rowInb (t : Fin 64) : ∀ a, (![0, t.val, 0, 0] : Fin 4 → Nat) a + S1x1x48x96.size a ≤ S1x64x48x96.size a := by
  revert t; decide
theorem sumInb (t : Fin 64) : ∀ a, (![52 * t.val, 0] : Fin 2 → Nat) a + S48x96.size a ≤ S3328x128.size a := by
  revert t; decide
theorem pairInb (p : Fin 32) : ∀ a, (![104 * p.val, 0] : Fin 2 → Nat) a + S96x96.size a ≤ S3328x128.size a := by
  revert p; decide

/-- Position `t`'s gates and their running sum. -/
def gateRow (arg7 : Memref sig .tc .vmem S1x64x48x96 .f32) (f5 : Bf (F := F) c arg7) (t : Fin 64) : FVec F S48x96 .f32 :=
  shapeCast S48x96 (View.readAt (Elt F) arg7.view (Rect.unit (s := S1x64x48x96) ![0, t.val, 0, 0] S1x1x48x96.size (rowInb t)).toLoadRect f5) shapeCasts_S1x1x48x96_S48x96
def gateSum (arg7 : Memref sig .tc .vmem S1x64x48x96 .f32) (f5 : Bf (F := F) c arg7) : (t : ℕ) → t < 64 → FVec F S48x96 .f32
  | 0, h => addf (broadcast S48x96 (Scalar.ofBits .f32 0x00000000#32)) (gateRow c arg7 f5 ⟨0, h⟩)
  | t + 1, h => addf (gateSum arg7 f5 t (Nat.lt_of_succ_lt h)) (gateRow c arg7 f5 ⟨t + 1, h⟩)
def sumPiece (arg7 : Memref sig .tc .vmem S1x64x48x96 .f32) (f5 : Bf (F := F) c arg7) (t : Fin 64) : View.Piece (Elt F) S3328x128 .f32 :=
  ⟨Rect.unit ![52 * t.val, 0] S48x96.size (sumInb t), shapeCast S48x96 (gateSum c arg7 f5 t.val t.isLt) shapeCasts_S48x96_S48x96⟩

/-- Position `t`'s codes, and positions `2 p` and `2 p + 1` row by row in turn. -/
def codeRow (arg4 : Memref sig .tc .vmem S1x64x48x96 .fp8e4m3) (f2 : Bf (F := F) c arg4) (t : Fin 64) : FVec F S48x96 .bf16 :=
  truncf .bf16 (extf .f32 (shapeCast S48x96 (View.readAt (Elt F) arg4.view (Rect.unit (s := S1x64x48x96) ![0, t.val, 0, 0] S1x1x48x96.size (rowInb t)).toLoadRect f2) shapeCasts_S1x1x48x96_S48x96) bitsLt_fp8e4m3_f32) bitsLt_bf16_f32
def pairPiece (arg4 : Memref sig .tc .vmem S1x64x48x96 .fp8e4m3) (f2 : Bf (F := F) c arg4) (p : Fin 32) : View.Piece (Elt F) S3328x128 .bf16 :=
  ⟨Rect.unit ![104 * p.val, 0] S96x96.size (pairInb p),
    interleaveRows S96x96 (codeRow c arg4 f2 ⟨2 * p.val, by omega⟩) (codeRow c arg4 f2 ⟨2 * p.val + 1, by omega⟩) bitcasts_S96x96_w16_S48x96_w32⟩

set_option backward.isDefEq.respectTransparency false
set_option maxHeartbeats 0

theorem run_sums : bodyRun.sl.H10_64 c arg7 f5 = below (sumPiece c arg7 f5) 64 le_rfl := by
  iterate 64 (refine cons_eq ?_ ?_; · rfl)
  rfl

theorem run_keys : bodyRun.sl.H11_32 c arg4 f2 = below (pairPiece c arg4 f2) 32 le_rfl := by
  iterate 32 (refine cons_eq ?_ ?_; · rfl)
  rfl

theorem run_queries : bodyRun.sl.H12_32 c arg2 f0 = below (pairPiece c arg2 f0) 32 le_rfl := by
  iterate 32 (refine cons_eq ?_ ?_; · rfl)
  rfl

theorem state_eq {p q : FVec F S96x128 .f32} {h : Fin 48} (e : p = q) :
    statePiece h q = ⟨Rect.unit (s := S1x48x96x128) ![0, h.val, 0, 0] S1x1x96x128.size (stateInb h), shapeCast S1x1x96x128 p shapeCasts_S96x128_S1x1x96x128⟩ := by
  subst e; rfl

theorem out_eq {p q : FVec F S64x128 .bf16} {h : Fin 48} (e : p = q) :
    outPiece h q = ⟨Rect.unit (s := S1x64x6144) ![0, 0, 128 * h.val] S1x64x128.size (outInb h), shapeCast S1x64x128 p shapeCasts_S64x128_S1x64x128⟩ := by
  subst e; rfl

theorem run_states : bodyRun.sl.H9_48 c i arg2 arg4 arg5 arg6 arg7 arg8 arg9 arg11 arg12 arg13 harg13 arg14 harg14 f0 f2 f3 f4 f5 f6 f7 f9 f10 f11 f12
    = below (fun h => statePiece h (ST c i arg2 arg4 arg5 arg6 arg7 arg8 arg9 arg11 arg12 arg13 harg13 arg14 harg14 f0 f2 f3 f4 f5 f6 f7 f9 f10 f11 f12 h)) 48 le_rfl := by
  iterate 48 (refine cons_eq ?_ ?_; · refine Eq.symm (state_eq (Eq.trans (b := headState (F := F) _ _ _ _ _ _ _) rfl ?_)); rfl)
  rfl

theorem run_outs : bodyRun.sl.H8_48 c i arg2 arg3 arg4 arg5 arg6 arg7 arg8 arg9 arg11 arg12 arg13 harg13 arg14 harg14 f0 f1 f2 f3 f4 f5 f6 f7 f9 f10 f11 f12
    = below (fun h => outPiece h (OU c i arg2 arg3 arg4 arg5 arg6 arg7 arg8 arg9 arg11 arg12 arg13 harg13 arg14 harg14 f0 f1 f2 f3 f4 f5 f6 f7 f9 f10 f11 f12 h)) 48 le_rfl := by
  iterate 48 (refine cons_eq ?_ ?_; · refine Eq.symm (out_eq (Eq.trans (b := headOut (F := F) _ _ _ _ _ _ _ _) rfl ?_)); rfl)
  rfl

/-- The five buffers the run leaves written. -/
theorem run_eq : run c i arg2 harg2 arg3 harg3 arg4 harg4 arg5 harg5 arg6 harg6 arg7 harg7 arg8 harg8 arg9 harg9 arg10 harg10 arg11 harg11 arg12 harg12 arg13 harg13 arg14 harg14 f0 f1 f2 f3 f4 f5 f6 f7 f8 f9 f10 f11 f12
    = ⟨arg10.view.writes (Elt F) arg10.view.junk (below (fun h => outPiece h (OU c i arg2 arg3 arg4 arg5 arg6 arg7 arg8 arg9 arg11 arg12 arg13 harg13 arg14 harg14 f0 f1 f2 f3 f4 f5 f6 f7 f9 f10 f11 f12 h)) 48 le_rfl),
      arg11.view.writes (Elt F) arg11.view.junk (below (fun h => statePiece h (ST c i arg2 arg4 arg5 arg6 arg7 arg8 arg9 arg11 arg12 arg13 harg13 arg14 harg14 f0 f2 f3 f4 f5 f6 f7 f9 f10 f11 f12 h)) 48 le_rfl),
      scr12 c i arg7 arg12 f5 f10, scr13 c i arg4 arg13 f2 f11, scr14 c i arg2 arg14 f0 f12⟩ := by
  rw [← run_outs, ← run_states]
  rfl

end

end Cert.KernelIdeal.Hand

end
-- ==== Proof.HeadMath.lean ====
module

public import proofs.«01_k».proof.Proof.Head
public import Idealize.ShloMosaic.Lib.Pointwise
public import Mathlib.Data.Matrix.Mul

@[expose] public section

noncomputable section

namespace Cert.KernelIdeal.Hand

open Cert.KernelIdeal Cert.KernelIdeal.Gen Cert.KernelIdeal.Facts Idealize.ShloMosaic

/-! A head over the extended reals: on real inputs it is plain real matrix algebra. -/

/-- A real matrix as a vector of extended reals. -/
def lift {m n : ℕ} (M : Matrix (Fin m) (Fin n) ℝ) : (⟨2, ![m, n]⟩ : Shape).Idx → EReal := fun x => ((M (x 0) (x 1) : ℝ) : EReal)

theorem ext2 {m n : ℕ} {f g : (⟨2, ![m, n]⟩ : Shape).Idx → EReal} (h : ∀ i j, f (ix2 i j) = g (ix2 i j)) : f = g := by
  funext x
  have e : x = ix2 (x 0) (x 1) := by
    funext a
    refine Fin.cases rfl (fun a => ?_) a
    refine Fin.cases rfl (fun a => a.elim0) a
  rw [e]; exact h _ _

theorem hi_lift {m n : ℕ} (M : Matrix (Fin m) (Fin n) ℝ) : hi (F := Ideal) (s := ⟨2, ![m, n]⟩) (lift M) = lift M := rfl

theorem rest_lift {m n : ℕ} (M : Matrix (Fin m) (Fin n) ℝ) : rest (F := Ideal) (s := ⟨2, ![m, n]⟩) (lift M) = lift 0 := by
  funext x
  show ((M (x 0) (x 1) : ℝ) : EReal) - ((M (x 0) (x 1) : ℝ) : EReal) = ((0 : ℝ) : EReal)
  rw [← EReal.coe_sub, sub_self]

theorem mid_lift {m n : ℕ} (M : Matrix (Fin m) (Fin n) ℝ) : mid (F := Ideal) (s := ⟨2, ![m, n]⟩) (lift M) = lift 0 := by
  unfold mid; rw [rest_lift]; rfl
theorem low_lift {m n : ℕ} (M : Matrix (Fin m) (Fin n) ℝ) : low (F := Ideal) (s := ⟨2, ![m, n]⟩) (lift M) = lift 0 := by
  unfold low; rw [rest_lift, rest_lift]; rfl

theorem lift_zero {m n : ℕ} (x : (⟨2, ![m, n]⟩ : Shape).Idx) : lift (0 : Matrix (Fin m) (Fin n) ℝ) x = 0 := by
  show ((0 : ℝ) : EReal) = 0
  rfl

/-- A sum whose summands vanish from `a` on. -/
theorem sum_head {a n : ℕ} (hn : a ≤ n) (f : Fin n → EReal) (hz : ∀ x : Fin n, a ≤ x.val → f x = 0) :
    ∑ x, f x = ∑ i : Fin a, f (Fin.castLE hn i) := by
  obtain ⟨b, rfl⟩ := Nat.exists_eq_add_of_le hn
  rw [Fin.sum_univ_add]
  rw [show (∑ i : Fin b, f (Fin.natAdd a i)) = 0 from Finset.sum_eq_zero fun i _ => hz _ (by simp)]
  rw [add_zero]; rfl

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem dotSq_lift (A B : Matrix (Fin 64) (Fin 64) ℝ) : dotSq (F := Ideal) (lift A) (lift B) = lift (A * B) := by
  funext x
  unfold dotSq sixL
  erw [hi_lift, mid_lift, low_lift, hi_lift, mid_lift, low_lift]
  pointwise
  rw [sum_head (a := 64) (by decide)]
  · simp only [Fin.val_castLE, Fin.is_lt, dite_true]
    simp only [lift, Matrix.mul_apply, coe_sum, EReal.coe_mul]
    rfl
  · intro x hx
    simp only [dif_neg (not_lt.2 hx)]
    split_ifs <;> simp only [lift_zero, mul_zero, zero_mul]

theorem dotVal_lift (A : Matrix (Fin 64) (Fin 64) ℝ) (B : Matrix (Fin 64) (Fin 128) ℝ) : dotVal (F := Ideal) (lift A) (lift B) = lift (A * B) := by
  funext x
  unfold dotVal sixL
  erw [hi_lift, mid_lift, low_lift, hi_lift, mid_lift, low_lift]
  pointwise
  rw [sum_head (a := 64) (by decide)]
  · simp only [Fin.val_castLE, Fin.is_lt, dite_true]
    simp only [lift, Matrix.mul_apply, coe_sum, EReal.coe_mul]
    rfl
  · intro x hx
    simp only [dif_neg (not_lt.2 hx)]
    split_ifs <;> simp only [lift_zero, mul_zero, zero_mul]

/-- Division of a row or column number by the block length. -/
theorem floorDiv_row (b : BitVec 32) (hb : b = 1#32 ∨ b = 2#32 ∨ b = 4#32 ∨ b = 8#32 ∨ b = 16#32 ∨ b = 32#32 ∨ b = 64#32) (x : S64x64.Idx) :
    floorDiv rowI b x = BitVec.ofNat 32 ((x 0).val / b.toNat) := by
  unfold floorDiv rowI
  pointwise
  have hr : ∃ r : Fin 64, x 0 = r := ⟨x 0, rfl⟩
  obtain ⟨r, hr⟩ := hr
  rw [hr]
  clear hr
  rcases hb with rfl | rfl | rfl | rfl | rfl | rfl | rfl <;> revert r <;> decide +kernel

theorem floorDiv_col (b : BitVec 32) (hb : b = 1#32 ∨ b = 2#32 ∨ b = 4#32 ∨ b = 8#32 ∨ b = 16#32 ∨ b = 32#32 ∨ b = 64#32) (x : S64x64.Idx) :
    floorDiv colI b x = BitVec.ofNat 32 ((x 1).val / b.toNat) := by
  unfold floorDiv colI
  pointwise
  have hr : ∃ r : Fin 64, x 1 = r := ⟨x 1, rfl⟩
  obtain ⟨r, hr⟩ := hr
  rw [hr]
  clear hr
  rcases hb with rfl | rfl | rfl | rfl | rfl | rfl | rfl <;> revert r <;> decide +kernel

theorem cmp_eq (m n : Fin 65) : IntOp.cmpi .eq (BitVec.ofNat 32 m.val) (BitVec.ofNat 32 n.val) = if m = n then 1#1 else 0#1 := by
  revert m n; decide +kernel
theorem cmp_gt (m n : Fin 65) : IntOp.cmpi .sgt (BitVec.ofNat 32 m.val) (BitVec.ofNat 32 n.val) = if n < m then 1#1 else 0#1 := by
  revert m n; decide +kernel
theorem cmp_ge (m n : Fin 65) : IntOp.cmpi .sge (BitVec.ofNat 32 m.val) (BitVec.ofNat 32 n.val) = if n ≤ m then 1#1 else 0#1 := by
  revert m n; decide +kernel

theorem sel_one {α : Type} (a b : α) : Scalar.select 1#1 a b = a := rfl
theorem sel_zero {α : Type} (a b : α) : Scalar.select 0#1 a b = b := rfl

/-- The part of `A` below the diagonal between the halves of a block of `2 b`. -/
def offR (b : ℕ) (A : Matrix (Fin 64) (Fin 64) ℝ) : Matrix (Fin 64) (Fin 64) ℝ :=
  fun i j => if i.val / (2 * b) = j.val / (2 * b) ∧ j.val / b < i.val / b then A i j else 0

theorem off_lift (b b2 : BitVec 32) (hb : b = 1#32 ∨ b = 2#32 ∨ b = 4#32 ∨ b = 8#32 ∨ b = 16#32 ∨ b = 32#32)
    (h2 : b2.toNat = 2 * b.toNat) (A : Matrix (Fin 64) (Fin 64) ℝ) :
    select (offMask b b2) (lift A : FVec Ideal S64x64 .f32) (zeroSq (F := Ideal)) = lift (offR b.toNat A) := by
  have hb1 : b = 1#32 ∨ b = 2#32 ∨ b = 4#32 ∨ b = 8#32 ∨ b = 16#32 ∨ b = 32#32 ∨ b = 64#32 := by tauto
  have hb2 : b2 = 1#32 ∨ b2 = 2#32 ∨ b2 = 4#32 ∨ b2 = 8#32 ∨ b2 = 16#32 ∨ b2 = 32#32 ∨ b2 = 64#32 := by
    rcases hb with rfl | rfl | rfl | rfl | rfl | rfl <;> simp [← BitVec.toNat_inj, h2]
  funext x
  unfold offMask zeroSq
  pointwise
  rw [floorDiv_row _ hb1, floorDiv_row _ hb2, floorDiv_col _ hb1, floorDiv_col _ hb2, h2]
  have l (i : Fin 64) (k : ℕ) : i.val / k < 65 := lt_of_le_of_lt (Nat.div_le_self _ _) (by omega)
  have e1 := cmp_eq ⟨_, l (x 0) (2 * b.toNat)⟩ ⟨_, l (x 1) (2 * b.toNat)⟩
  have e2 := cmp_gt ⟨_, l (x 0) (b.toNat)⟩ ⟨_, l (x 1) (b.toNat)⟩
  dsimp only at e1 e2
  rw [e1, e2]
  simp only [Fin.mk.injEq, Fin.mk_lt_mk, lift, offR]
  by_cases h1 : (x 0).val / (2 * b.toNat) = (x 1).val / (2 * b.toNat) <;> by_cases h3 : (x 1).val / b.toNat < (x 0).val / b.toNat <;>
    simp only [h1, h3, if_true, if_false, and_true, and_false, true_and, false_and] <;> rfl

/-- One doubling step over the reals. -/
def stepR (b : ℕ) (A T : Matrix (Fin 64) (Fin 64) ℝ) : Matrix (Fin 64) (Fin 64) ℝ := T - T * (offR b A * T)

theorem invStep_lift (b b2 : BitVec 32) (hb : b = 1#32 ∨ b = 2#32 ∨ b = 4#32 ∨ b = 8#32 ∨ b = 16#32 ∨ b = 32#32)
    (h2 : b2.toNat = 2 * b.toNat) (A T : Matrix (Fin 64) (Fin 64) ℝ) :
    invStep (F := Ideal) b b2 (lift A) (lift T) = lift (stepR b.toNat A T) := by
  unfold invStep
  rw [off_lift b b2 hb h2, dotSq_lift, dotSq_lift]
  rfl

theorem eye_lift : eyeSq (F := Ideal) = lift 1 := by
  refine ext2 fun i j => ?_
  unfold eyeSq rowI colI
  pointwise
  have e1 := cmp_eq ⟨i.val, lt_trans i.isLt (by decide)⟩ ⟨j.val, lt_trans j.isLt (by decide)⟩
  dsimp only at e1
  rw [e1]
  simp only [Fin.mk.injEq]
  show _ = (((1 : Matrix (Fin 64) (Fin 64) ℝ) i j : ℝ) : EReal)
  by_cases h : i = j
  · rw [if_pos (congrArg Fin.val h), sel_one, h, Matrix.one_apply_eq]; rfl
  · rw [if_neg (fun e => h (Fin.ext e)), sel_zero, Matrix.one_apply_ne h]; rfl

def inverseR (A : Matrix (Fin 64) (Fin 64) ℝ) : Matrix (Fin 64) (Fin 64) ℝ :=
  stepR 32 A (stepR 16 A (stepR 8 A (stepR 4 A (stepR 2 A (stepR 1 A 1)))))

theorem inverse_lift (A : Matrix (Fin 64) (Fin 64) ℝ) : inverse (F := Ideal) (lift A) = lift (inverseR A) := by
  unfold inverse
  rw [eye_lift, invStep_lift 1#32 2#32 (by simp) rfl, invStep_lift 2#32 4#32 (by simp) rfl, invStep_lift 4#32 8#32 (by simp) rfl,
    invStep_lift 8#32 16#32 (by simp) rfl, invStep_lift 16#32 32#32 (by simp) rfl, invStep_lift 32#32 64#32 (by simp) rfl]
  rfl

/-- The blocks of `b` rows along the diagonal. -/
def diagR (b : ℕ) (A : Matrix (Fin 64) (Fin 64) ℝ) : Matrix (Fin 64) (Fin 64) ℝ := fun i j => if i.val / b = j.val / b then A i j else 0

theorem step_inv (b : ℕ) (A T : Matrix (Fin 64) (Fin 64) ℝ) (hA : ∀ i j, i ≤ j → A i j = 0)
    (hT : T * (1 + diagR b A) = 1) (hd : ∀ i j, i.val / b ≠ j.val / b → T i j = 0) :
    stepR b A T * (1 + diagR (2 * b) A) = 1 ∧ ∀ i j, i.val / (2 * b) ≠ j.val / (2 * b) → stepR b A T i j = 0 := by
  have q (n : ℕ) : n / (2 * b) = n / b / 2 := by rw [mul_comm, Nat.div_div_eq_div_mul]
  have hO : diagR (2 * b) A = diagR b A + offR b A := by
    ext i j
    simp only [diagR, offR, Matrix.add_apply, q]
    by_cases h : j < i
    · have h' : j.val / b ≤ i.val / b := Nat.div_le_div_right (le_of_lt h)
      by_cases e : i.val / b = j.val / b
      · simp [e]
      · have : j.val / b < i.val / b := lt_of_le_of_ne h' (Ne.symm e)
        simp [e, this]
    · simp [hA i j (not_lt.1 h)]
  have hz : offR b A * (T * offR b A) = 0 := by
    ext i l
    rw [Matrix.mul_apply]
    simp only [Matrix.mul_apply, Finset.mul_sum]
    refine Finset.sum_eq_zero fun j _ => Finset.sum_eq_zero fun k _ => ?_
    by_cases e : j.val / b = k.val / b
    · simp only [offR, q]
      by_cases h1 : i.val / b / 2 = j.val / b / 2 ∧ j.val / b < i.val / b
      · have : ¬ (k.val / b / 2 = l.val / b / 2 ∧ l.val / b < k.val / b) := by omega
        simp [this]
      · simp [h1]
    · rw [hd j k e]; simp
  have hz' : T * (offR b A * T) * offR b A = 0 := by rw [Matrix.mul_assoc, Matrix.mul_assoc, hz, Matrix.mul_zero]
  constructor
  · rw [hO, stepR, ← add_assoc, Matrix.mul_add, Matrix.sub_mul, Matrix.sub_mul, hz', hT, sub_zero, Matrix.mul_assoc, Matrix.mul_assoc, hT, Matrix.mul_one]
    simp
  · intro i j h
    have h0 : i.val / b ≠ j.val / b := fun e => h (by rw [q, q, e])
    rw [stepR, Matrix.sub_apply, hd i j h0, Matrix.mul_apply, zero_sub, neg_eq_zero]
    refine Finset.sum_eq_zero fun k _ => ?_
    rw [Matrix.mul_apply]
    by_cases e : i.val / b = k.val / b
    · rw [Finset.sum_eq_zero, mul_zero]
      intro l _
      by_cases e2 : l.val / b = j.val / b
      · have : ¬ (k.val / b / 2 = l.val / b / 2 ∧ l.val / b < k.val / b) := by
          rw [q, q] at h; omega
        simp [offR, q, this]
      · rw [hd l j e2, mul_zero]
    · rw [hd i k e, zero_mul]

theorem inverseR_mul (A : Matrix (Fin 64) (Fin 64) ℝ) (hA : ∀ i j, i ≤ j → A i j = 0) : inverseR A * (1 + A) = 1 := by
  have h0 : (1 : Matrix (Fin 64) (Fin 64) ℝ) * (1 + diagR 1 A) = 1 := by
    have : diagR 1 A = 0 := by
      ext i j
      simp only [diagR, Nat.div_one, Matrix.zero_apply]
      split_ifs with h
      · exact hA i j (le_of_eq (Fin.ext h))
      · rfl
    rw [this]; simp
  have d0 : ∀ i j : Fin 64, i.val / 1 ≠ j.val / 1 → (1 : Matrix (Fin 64) (Fin 64) ℝ) i j = 0 := by
    intro i j h
    exact Matrix.one_apply_ne fun e => h (by rw [e])
  obtain ⟨h1, d1⟩ := step_inv 1 A _ hA h0 d0
  obtain ⟨h2, d2⟩ := step_inv 2 A _ hA h1 d1
  obtain ⟨h3, d3⟩ := step_inv 4 A _ hA h2 d2
  obtain ⟨h4, d4⟩ := step_inv 8 A _ hA h3 d3
  obtain ⟨h5, d5⟩ := step_inv 16 A _ hA h4 d4
  obtain ⟨h6, d6⟩ := step_inv 32 A _ hA h5 d5
  have : diagR (2 * 32) A = A := by
    ext i j
    simp only [diagR]
    rw [if_pos]
    omega
  rw [this] at h6
  exact h6

/-- The running-sum, code and state hypotheses under which a head is real algebra. -/
structure Reals (gc : FVec Ideal S64x128 .f32) (kb qb : FVec Ideal S64x128 .bf16) (G K Q : Matrix (Fin 64) (Fin 96) ℝ) : Prop where
  hgc : ∀ i (d : Fin 96), gc (ix2 i (Fin.castLE (by decide) d)) = (G i d : EReal)
  hkb : ∀ i (d : Fin 96), kb (ix2 i (Fin.castLE (by decide) d)) = (K i d : EReal)
  hqb : ∀ i (d : Fin 96), qb (ix2 i (Fin.castLE (by decide) d)) = (Q i d : EReal)
  hkb0 : ∀ i (d : Fin 128), 96 ≤ d.val → kb (ix2 i d) = 0
  hqb0 : ∀ i (d : Fin 128), 96 ≤ d.val → qb (ix2 i d) = 0

def grownR (G K : Matrix (Fin 64) (Fin 96) ℝ) : Matrix (Fin 64) (Fin 96) ℝ := fun i d => K i d * Real.exp (G i d)
def shrunkR (G K : Matrix (Fin 64) (Fin 96) ℝ) : Matrix (Fin 64) (Fin 96) ℝ := fun i d => K i d * Real.exp (0 - G i d)
def leftR (G K : Matrix (Fin 64) (Fin 96) ℝ) : Matrix (Fin 64) (Fin 96) ℝ := fun i d => K i d * Real.exp (G 63 d - G i d)

variable {gc : FVec Ideal S64x128 .f32} {kb qb : FVec Ideal S64x128 .bf16} {G K Q : Matrix (Fin 64) (Fin 96) ℝ}

theorem exp_real (r : ℝ) : Ideal.exp (r : EReal) = (Real.exp r : ℝ) := rfl

theorem scores_top (H : Reals gc kb qb G K Q) (i j : Fin 64) :
    scores (F := Ideal) gc kb qb (ix2 (Fin.castLE (by decide) i) j) = ((grownR G K * (shrunkR G K).transpose) i j : ℝ) := by
  unfold scores stacked grown shrunk
  pointwise
  rw [sum_head (a := 96) (by decide)]
  · simp only [Fin.val_castLE, Fin.is_lt, dite_true, Fin.eta, H.hkb, H.hgc, exp_real]
    simp only [grownR, shrunkR, Matrix.mul_apply, coe_sum, EReal.coe_mul, Matrix.transpose_apply]
    rfl
  · intro x hx
    simp only [H.hkb0 _ x hx, zero_mul, mul_zero]

theorem scores_bot (H : Reals gc kb qb G K Q) (i j : Fin 64) :
    scores (F := Ideal) gc kb qb (ix2 (Fin.natAdd 64 i) j) = ((grownR G Q * (shrunkR G K).transpose) i j : ℝ) := by
  unfold scores stacked grown shrunk
  pointwise
  rw [sum_head (a := 96) (by decide)]
  · have hi : ¬ (Fin.natAdd 64 i).val < 64 := by simp
    have hs : (Fin.natAdd 64 i).val - 64 = i.val := by simp
    simp only [hi, dite_false, hs, Fin.eta, H.hkb, H.hqb, H.hgc, exp_real]
    simp only [grownR, shrunkR, Matrix.mul_apply, coe_sum, EReal.coe_mul, Matrix.transpose_apply]
    rfl
  · intro x hx
    simp only [H.hkb0 _ x hx, zero_mul, mul_zero]

theorem onState_top (H : Reals gc kb qb G K Q) (S : Matrix (Fin 96) (Fin 128) ℝ) (i : Fin 64) (e : Fin 128) :
    onState (F := Ideal) gc kb qb (lift S) (ix2 (Fin.castLE (by decide) i) e) = ((grownR G K * S) i e : ℝ) := by
  unfold onState stacked grown
  erw [hi_lift, mid_lift, low_lift]
  pointwise
  rw [sum_head (a := 96) (by decide)]
  · have h1 (x : Fin 96) : x.val < 128 := lt_trans x.isLt (by decide)
    have h2 (x : Fin 96) (h) : (⟨x.val, h⟩ : Fin 128) = Fin.castLE (by decide) x := rfl
    simp only [Fin.val_castLE, Fin.is_lt, dite_true, h1, Fin.eta]
    simp only [h2, H.hkb, H.hgc, exp_real]
    simp only [grownR, Matrix.mul_apply, coe_sum, EReal.coe_mul, lift]
    rfl
  · intro x hx
    simp only [dif_neg (not_lt.2 hx), lift_zero, dite_eq_ite, ite_self, mul_zero]

theorem onState_bot (H : Reals gc kb qb G K Q) (S : Matrix (Fin 96) (Fin 128) ℝ) (i : Fin 64) (e : Fin 128) :
    onState (F := Ideal) gc kb qb (lift S) (ix2 (Fin.natAdd 64 i) e) = ((grownR G Q * S) i e : ℝ) := by
  unfold onState stacked grown
  erw [hi_lift, mid_lift, low_lift]
  pointwise
  rw [sum_head (a := 96) (by decide)]
  · have h1 (x : Fin 96) : x.val < 128 := lt_trans x.isLt (by decide)
    have h2 (x : Fin 96) (h) : (⟨x.val, h⟩ : Fin 128) = Fin.castLE (by decide) x := rfl
    have hi : ¬ (Fin.natAdd 64 i).val < 64 := by simp
    have hs : (Fin.natAdd 64 i).val - 64 = i.val := by simp
    simp only [Fin.val_castLE, Fin.is_lt, dite_true, h1, hi, dite_false, hs, Fin.eta]
    simp only [h2, H.hqb, H.hgc, exp_real]
    simp only [grownR, Matrix.mul_apply, coe_sum, EReal.coe_mul, lift]
    rfl
  · intro x hx
    simp only [dif_neg (not_lt.2 hx), lift_zero, dite_eq_ite, ite_self, mul_zero]

theorem written_top (H : Reals gc kb qb G K Q) (U : Matrix (Fin 64) (Fin 128) ℝ) (d : Fin 96) (e : Fin 128) :
    written (F := Ideal) gc kb (lift U) (ix2 (Fin.castLE (by decide) d) e) = (((leftR G K).transpose * U) d e : ℝ) := by
  unfold written left lastRow
  erw [hi_lift, mid_lift, low_lift]
  pointwise
  rw [sum_head (a := 64) (by decide)]
  · simp only [Fin.val_castLE, Fin.is_lt, dite_true, Fin.eta, H.hkb, H.hgc, exp_real, ← EReal.coe_sub]
    simp only [leftR, Matrix.mul_apply, coe_sum, EReal.coe_mul, lift, Matrix.transpose_apply]
    rfl
  · intro x hx
    simp only [dif_neg (not_lt.2 hx)]
    split_ifs <;> simp only [lift_zero, mul_zero]

/-- The strictly lower key scores and the lower query scores. -/
def keyR (G K : Matrix (Fin 64) (Fin 96) ℝ) (c : Fin 64 → ℝ) : Matrix (Fin 64) (Fin 64) ℝ :=
  fun i j => if j < i then c i * (grownR G K * (shrunkR G K).transpose) i j else 0
def queryR (G K Q : Matrix (Fin 64) (Fin 96) ℝ) : Matrix (Fin 64) (Fin 64) ℝ :=
  fun i j => if j ≤ i then (grownR G Q * (shrunkR G K).transpose) i j else 0

/-- A column of reals. -/
def liftC (c : Fin 64 → ℝ) : FVec Ideal S64x1 .f32 := fun x => ((c (x 0) : ℝ) : EReal)

theorem keyPart_lift (H : Reals gc kb qb G K Q) (c : Fin 64 → ℝ) : keyPart (F := Ideal) gc kb qb (liftC c) = lift (keyR G K c) := by
  refine ext2 fun i j => ?_
  unfold keyPart rowI colI zeroSq
  pointwise
  have e1 := cmp_gt ⟨i.val, lt_trans i.isLt (by decide)⟩ ⟨j.val, lt_trans j.isLt (by decide)⟩
  dsimp only at e1
  rw [e1]
  simp only [Fin.mk_lt_mk]
  show _ = ((keyR G K c i j : ℝ) : EReal)
  unfold keyR
  by_cases h : j < i
  · rw [if_pos (Fin.lt_def.1 h), sel_one, if_pos h]
    exact (congrArg (liftC c (ix2 i 0) * ·) (scores_top H i j)).trans (EReal.coe_mul _ _).symm
  · rw [if_neg (fun e => h (Fin.lt_def.2 e)), sel_zero, if_neg h]; rfl

theorem queryPart_lift (H : Reals gc kb qb G K Q) : queryPart (F := Ideal) gc kb qb = lift (queryR G K Q) := by
  refine ext2 fun i j => ?_
  unfold queryPart rowI colI zeroSq
  pointwise
  have e1 := cmp_ge ⟨i.val, lt_trans i.isLt (by decide)⟩ ⟨j.val, lt_trans j.isLt (by decide)⟩
  dsimp only at e1
  rw [e1]
  simp only [Fin.mk_le_mk]
  show _ = ((queryR G K Q i j : ℝ) : EReal)
  unfold queryR
  by_cases h : j ≤ i
  · rw [if_pos (Fin.le_def.1 h), sel_one, if_pos h]
    exact scores_bot H i j
  · rw [if_neg (fun e => h (Fin.le_def.2 e)), sel_zero, if_neg h]; rfl

/-- The corrections, the output and the state over the reals. -/
def deltaR (G K : Matrix (Fin 64) (Fin 96) ℝ) (a c : Fin 64 → ℝ) (V : Matrix (Fin 64) (Fin 128) ℝ) (S : Matrix (Fin 96) (Fin 128) ℝ) : Matrix (Fin 64) (Fin 128) ℝ :=
  inverseR (keyR G K c) * Matrix.of fun i e => a i * V i e - c i * (grownR G K * S) i e
def headOutR (sc : EReal) (G K Q : Matrix (Fin 64) (Fin 96) ℝ) (a c qs : Fin 64 → ℝ) (V : Matrix (Fin 64) (Fin 128) ℝ) (S : Matrix (Fin 96) (Fin 128) ℝ) (i : Fin 64) (e : Fin 128) : EReal :=
  sc * ((qs i * ((grownR G Q * S) i e + (queryR G K Q * deltaR G K a c V S) i e) : ℝ) : EReal)
def headStateR (G K : Matrix (Fin 64) (Fin 96) ℝ) (a c : Fin 64 → ℝ) (V : Matrix (Fin 64) (Fin 128) ℝ) (S : Matrix (Fin 96) (Fin 128) ℝ) : Matrix (Fin 96) (Fin 128) ℝ :=
  fun d e => Real.exp (G 63 d) * S d e + ((leftR G K).transpose * deltaR G K a c V S) d e

theorem delta_lift (H : Reals gc kb qb G K Q) (a c : Fin 64 → ℝ) (V : Matrix (Fin 64) (Fin 128) ℝ) (S : Matrix (Fin 96) (Fin 128) ℝ) :
    delta (F := Ideal) gc kb qb (liftC a) (liftC c) (lift V) (lift S) = lift (deltaR G K a c V S) := by
  unfold delta
  rw [keyPart_lift H, inverse_lift, deltaR, ← dotVal_lift]
  congr 1
  funext x
  pointwise
  refine (congrArg (fun z => liftC a (ix2 (x 0) 0) * lift V x - liftC c (ix2 (x 0) 0) * z) (onState_top H S (x 0) (x 1))).trans ?_
  simp only [liftC, lift, ← EReal.coe_mul, ← EReal.coe_sub]
  rfl

theorem headOut_real (H : Reals gc kb qb G K Q) (a c qs : Fin 64 → ℝ) (V : Matrix (Fin 64) (Fin 128) ℝ) (S : Matrix (Fin 96) (Fin 128) ℝ) (x : S64x128.Idx) :
    headOut (F := Ideal) gc kb qb (liftC a) (liftC c) (liftC qs) (lift V) (lift S) x
      = headOutR (Scalar.ofBits (F := Ideal) .f32 0x3DD105EC#32) G K Q a c qs V S (x 0) (x 1) := by
  unfold headOut
  rw [delta_lift H, queryPart_lift H, dotVal_lift]
  pointwise
  refine (congrArg (fun z => Ideal.ofBits FTy.f32 1037108716#32 * (liftC qs (ix2 (x 0) 0) * (z + lift (queryR G K Q * deltaR G K a c V S) x))) (onState_bot H S (x 0) (x 1))).trans ?_
  simp only [liftC, lift, ← EReal.coe_mul, ← EReal.coe_add, headOutR]
  rfl

theorem headState_real (H : Reals gc kb qb G K Q) (a c : Fin 64 → ℝ) (V : Matrix (Fin 64) (Fin 128) ℝ) (S : Matrix (Fin 96) (Fin 128) ℝ) :
    headState (F := Ideal) gc kb qb (liftC a) (liftC c) (lift V) (lift S) = lift (headStateR G K a c V S) := by
  funext x
  unfold headState lastRow
  rw [delta_lift H]
  pointwise
  refine (congrArg₂ (fun y z => Ideal.exp y * lift S x + z) (H.hgc 63 (x 0)) (written_top H _ (x 0) (x 1))).trans ?_
  simp only [exp_real, lift, ← EReal.coe_mul, ← EReal.coe_add, headStateR]

end Cert.KernelIdeal.Hand
end
-- ==== Proof.BodyReads.lean ====
module

public import proofs.«01_k».proof.Proof.Reads
public import proofs.«01_k».proof.Proof.HeadMath
public import Idealize.ShloMosaic.Lib.Pointwise
public import Idealize.ShloMosaic.Lib.Writes
public import Idealize.ShloMosaic.Lib.Bf16Pair

@[expose] public section

set_option maxRecDepth 16384

noncomputable section

namespace Cert.KernelIdeal.Hand

open Cert.KernelIdeal Cert.KernelIdeal.Gen Cert.KernelIdeal.Facts Idealize.ShloMosaic

/-! What the body's loads read and its stores leave, element by element, over the extended reals. -/

theorem readAt_at {κ : Kind} {sp : Space} {s : Shape} {e : EltTy} (v : View sig κ sp s e) (r : LoadRect s)
    (f : v.ty.Contents (Elt Ideal)) (x : r.shape.Idx) (y : s.Idx) (h : ∀ a, (r.idx x a).val = (y a).val) :
    v.readAt (Elt Ideal) r f x = v.read (Elt Ideal) f y := by
  rw [View.readAt_apply]; congr 1; funext a; exact Fin.ext (h a)

variable (c : Dev nD)

/-- The scratch row of head `h` at position `t`; the code scratches keep positions `2 p` and `2 p + 1` next to each other. -/
def sumAt (t : Fin 64) (h : Fin 48) : Fin 3328 := ⟨52 * t.val + h.val, by omega⟩
def codeAt (t : Fin 64) (h : Fin 48) : Fin 3328 := ⟨104 * (t.val / 2) + 2 * h.val + t.val % 2, by omega⟩

theorem gcRead_at (h : Fin 48) (a : Memref sig .tc .vmem S3328x128 .f32) (g : Bf (F := Ideal) c a) (t : Fin 64) (d : Fin 128) :
    gcRead c h a g (ix2 t d) = a.view.read (Elt Ideal) g (ix2 (sumAt t h) d) := by
  refine readAt_at _ _ _ _ _ fun x => ?_
  fin_cases x
  · show h.val + 52 * t.val = 52 * t.val + h.val; omega
  · show 0 + 1 * d.val = d.val; omega

theorem code_idx (t : Fin 64) (h : Fin 48) (d : Fin 128) (j : S1664x2x128.Idx)
    (j0 : (j 0).val = h.val + 52 * (t.val / 2)) (j1 : (j 1).val = t.val % 2) (j2 : (j 2).val = d.val) :
    Shape.reshapeEquiv reshapes_S3328x128_S1664x2x128.1 j = (ix2 (codeAt t h) d : S3328x128.Idx) := by
  have hj : j = ix3 (⟨h.val + 52 * (t.val / 2), by omega⟩ : Fin 1664) (⟨t.val % 2, by omega⟩ : Fin 2) d := by
    funext a; fin_cases a
    · exact Fin.ext j0
    · exact Fin.ext j1
    · exact Fin.ext j2
  rw [hj]
  simp only [pointwise]
  congr 1
  apply Fin.ext
  simp [codeAt]
  omega

theorem codeRead_at (h : Fin 48) (a : Memref sig .tc .vmem S3328x128 .bf16) (ha : a.IsWhole) (g : Bf (F := Ideal) c a) (t : Fin 64) (d : Fin 128) :
    codeRead c h a ha g (ix2 t d) = a.view.read (Elt Ideal) g (ix2 (codeAt t h) d) := by
  unfold codeRead
  simp only [pointwise]
  split
  · rw [View.readAt_apply]
    refine congrArg (View.read (Elt Ideal) a.view g) (code_idx t h d _ ?_ ?_ ?_)
    · show h.val + 52 * (t.val / 2) = _; rfl
    · show 0 + 1 * 0 = t.val % 2; omega
    · show 0 + 1 * d.val = d.val; omega
  · rw [View.readAt_apply]
    refine congrArg (View.read (Elt Ideal) a.view g) (code_idx t h d _ ?_ ?_ ?_)
    · show h.val + 52 * (t.val / 2) = _; rfl
    · show 0 + 1 * 1 = t.val % 2; omega
    · show 0 + 1 * d.val = d.val; omega

theorem valRead_at (h : Fin 48) (a : Memref sig .tc .vmem S1x64x48x128 .bf16) (g : Bf (F := Ideal) c a) (t : Fin 64) (e : Fin 128) :
    valRead c h a g (ix2 t e) = a.view.read (Elt Ideal) g (ix4 0 t h e) := by
  unfold valRead
  simp only [pointwise]
  refine readAt_at _ _ _ _ _ fun x => ?_
  fin_cases x
  · rfl
  · show 0 + 1 * t.val = t.val; omega
  · show h.val + 1 * 0 = h.val; omega
  · show 0 + 1 * e.val = e.val; omega

theorem stateRead_at (h : Fin 48) (a : Memref sig .tc .vmem S1x48x96x128 .f32) (g : Bf (F := Ideal) c a) (d : Fin 96) (e : Fin 128) :
    stateRead c h a g (ix2 d e) = a.view.read (Elt Ideal) g (ix4 0 h d e) := by
  unfold stateRead
  simp only [pointwise]
  refine readAt_at _ _ _ _ _ fun x => ?_
  fin_cases x
  · rfl
  · show h.val + 1 * 0 = h.val; omega
  · show 0 + 1 * d.val = d.val; omega
  · show 0 + 1 * e.val = e.val; omega

theorem perHead_at (a : Memref sig .tc .vmem S1x64x48 .f32) (g : Bf (F := Ideal) c a) (t : Fin 64) (h : Fin 48) :
    perHead c a g (ix2 t h) = a.view.read (Elt Ideal) g (ix3 0 t h) := by
  unfold perHead
  simp only [pointwise]
  refine readAt_at _ _ _ _ _ fun x => ?_
  fin_cases x
  · rfl
  · show 0 + 1 * t.val = t.val; omega
  · show 0 + 1 * h.val = h.val; omega

theorem gateRow_at (a : Memref sig .tc .vmem S1x64x48x96 .f32) (g : Bf (F := Ideal) c a) (t : Fin 64) (h : Fin 48) (d : Fin 96) :
    gateRow c a g t (ix2 h d) = a.view.read (Elt Ideal) g (ix4 0 t h d) := by
  unfold gateRow
  simp only [pointwise]
  refine readAt_at _ _ _ _ _ fun x => ?_
  fin_cases x
  · rfl
  · show t.val + 1 * 0 = t.val; omega
  · show 0 + 1 * h.val = h.val; omega
  · show 0 + 1 * d.val = d.val; omega

theorem codeRow_at (a : Memref sig .tc .vmem S1x64x48x96 .fp8e4m3) (g : Bf (F := Ideal) c a) (t : Fin 64) (h : Fin 48) (d : Fin 96) :
    codeRow c a g t (ix2 h d) = a.view.read (Elt Ideal) g (ix4 0 t h d) := by
  unfold codeRow
  simp only [pointwise]
  refine readAt_at _ _ _ _ _ fun x => ?_
  fin_cases x
  · rfl
  · show t.val + 1 * 0 = t.val; omega
  · show 0 + 1 * h.val = h.val; omega
  · show 0 + 1 * d.val = d.val; omega

/-- The running sum of the gates at position `t`. -/
theorem gateSum_at (a : Memref sig .tc .vmem S1x64x48x96 .f32) (g : Bf (F := Ideal) c a) (q : Fin 64 → Fin 48 → Fin 96 → ℝ)
    (hq : ∀ t h d, a.view.read (Elt Ideal) g (ix4 0 t h d) = (q t h d : EReal)) (h : Fin 48) (d : Fin 96) :
    ∀ (t : ℕ) (ht : t < 64), gateSum c a g t ht (ix2 h d) = ((∑ s : Fin 64, if s.val ≤ t then q s h d else 0 : ℝ) : EReal) := by
  have key : ∀ t (ht : t + 1 < 64), (∑ s : Fin 64, if s.val ≤ t + 1 then q s h d else 0 : ℝ) = (∑ s : Fin 64, if s.val ≤ t then q s h d else 0 : ℝ) + q ⟨t + 1, ht⟩ h d := by
    intro t ht
    have e : q ⟨t + 1, ht⟩ h d = ∑ s : Fin 64, if s = ⟨t + 1, ht⟩ then q s h d else 0 := by simp
    rw [e, ← Finset.sum_add_distrib]
    refine Finset.sum_congr rfl fun s _ => ?_
    have h3 : s = ⟨t + 1, ht⟩ ↔ s.val = t + 1 := Fin.ext_iff
    by_cases h1 : s.val ≤ t
    · rw [if_pos (by omega), if_pos h1, if_neg (by rw [h3]; omega), add_zero]
    · by_cases h2 : s.val = t + 1
      · rw [if_pos (by omega), if_neg h1, if_pos (h3.2 h2), zero_add]
      · rw [if_neg (by omega), if_neg h1, if_neg (by rw [h3]; omega), add_zero]
  intro t
  induction t with
  | zero =>
    intro ht
    unfold gateSum
    simp only [pointwise]
    rw [gateRow_at, hq]
    have e : (∑ s : Fin 64, if s.val ≤ 0 then q s h d else 0 : ℝ) = q ⟨0, ht⟩ h d := by
      rw [Finset.sum_eq_single (⟨0, ht⟩ : Fin 64)]
      · simp
      · intro s _ hs; rw [if_neg]; intro h0; exact hs (Fin.ext (by simpa using h0))
      · simp
    rw [e]
    simp
  | succ t ih =>
    intro ht
    unfold gateSum
    simp only [pointwise]
    rw [ih, gateRow_at, hq, key t ht]
    exact (EReal.coe_add _ _).symm

/-- An element under one piece of a family and under no other reads that piece. -/
theorem read_below {sp : Space} {s : Shape} {e : EltTy} (v : View sig .tc sp s e) (g : v.ty.Contents (Elt Ideal)) {N : ℕ}
    (f : Fin N → View.Piece (Elt Ideal) s e) (k : Fin N) (x : (f k).1.shape.Idx) (y : s.Idx) (hy : (f k).1.emb x = y)
    (hu : ∀ k', y ∈ (f k').1.set → k' = k) : ∀ (n : ℕ) (hn : n ≤ N), k.val < n →
      v.read (Elt Ideal) (v.writes (Elt Ideal) g (below f n hn)) y = (f k).2 x
  | 0, _, hk => absurd hk (Nat.not_lt_zero _)
  | n + 1, hn, hk => by
    rw [below]
    by_cases e : k.val = n
    · obtain rfl : k = ⟨n, hn⟩ := Fin.ext e
      rw [← hy]
      exact View.read_writes_cons_emb v g (f ⟨n, hn⟩).1 (f ⟨n, hn⟩).2 _ x
    · have hy' : y ∉ Finset.univ.map (f ⟨n, hn⟩).1.emb := by
        rw [Rect.map_emb_univ]; intro hm; exact e (congrArg Fin.val (hu _ hm)).symm
      rw [View.writes_cons, View.read_slice_write_of_not_mem _ _ _ _ hy']
      exact read_below v g f k x y hy hu n _ (by omega)

/-- A store over the whole of a buffer leaves its payload. -/
theorem read_full {sp : Space} {s : Shape} {e : EltTy} (v : View sig .tc sp s e) (g : v.ty.Contents (Elt Ideal)) (off : Fin s.rank → ℕ)
    (h0 : ∀ a, off a = 0) (inb : ∀ a, off a + s.size a ≤ s.size a) (w : s.Idx → Elt Ideal e) (y : s.Idx) :
    v.read (Elt Ideal) (v.writes (Elt Ideal) g [⟨Rect.unit off s.size inb, w⟩]) y = w y := by
  refine View.read_writes_apply_of_pieces v g w _ ?_ y ⟨_, List.mem_singleton_self _, ?_⟩
  · intro p hp x
    obtain rfl := List.mem_singleton.1 hp
    show w x = w ((Rect.unit off s.size inb).emb x)
    congr 1; funext a; apply Fin.ext
    show (x a).val = off a + 1 * (x a).val
    rw [h0]; omega
  · refine (Rect.mem_set_unit (inb := inb)).2 fun a => ?_
    rw [h0]; have := (y a).isLt; omega

/-- The row of sums the scratch holds for a head, once stored. -/
theorem sums_at (v : View sig .tc .vmem S3328x128 .f32) (g0 : v.ty.Contents (Elt Ideal)) (a : Memref sig .tc .vmem S1x64x48x96 .f32) (g : Bf (F := Ideal) c a)
    (t : Fin 64) (h : Fin 48) (d : Fin 96) :
    v.read (Elt Ideal) (v.writes (Elt Ideal) g0 (below (sumPiece c a g) 64 le_rfl)) (ix2 (sumAt t h) (Fin.castLE (by decide) d))
      = gateSum c a g t.val t.isLt (ix2 h d) := by
  have hh := h.isLt
  have := read_below v g0 (sumPiece c a g) t (ix2 h d : S48x96.Idx) (ix2 (sumAt t h) (Fin.castLE (by decide) d)) ?_ ?_ 64 le_rfl t.isLt
  · rw [this]
    show shapeCast S48x96 (gateSum c a g t.val t.isLt) shapeCasts_S48x96_S48x96 (ix2 h d) = _
    simp only [pointwise]
  · funext x; fin_cases x <;> apply Fin.ext
    · show 52 * t.val + 1 * h.val = 52 * t.val + h.val; omega
    · show 0 + 1 * d.val = d.val; omega
  · intro k hk
    have h1 := (Rect.mem_set_unit (inb := sumInb k)).1 hk 0
    have h2 : 52 * k.val ≤ 52 * t.val + h.val ∧ 52 * t.val + h.val < 52 * k.val + 48 := h1
    exact Fin.ext (by omega)

/-- The row of codes the scratch holds for a head, once stored. -/
theorem codes_at (v : View sig .tc .vmem S3328x128 .bf16) (g0 : v.ty.Contents (Elt Ideal)) (a : Memref sig .tc .vmem S1x64x48x96 .fp8e4m3) (g : Bf (F := Ideal) c a)
    (t : Fin 64) (h : Fin 48) (d : Fin 96) :
    v.read (Elt Ideal) (v.writes (Elt Ideal) g0 (below (pairPiece c a g) 32 le_rfl)) (ix2 (codeAt t h) (Fin.castLE (by decide) d))
      = codeRow c a g t (ix2 h d) := by
  have hh := h.isLt
  have ht := t.isLt
  have hp : t.val / 2 < 32 := by omega
  have := read_below v g0 (pairPiece c a g) ⟨t.val / 2, hp⟩ (ix2 (⟨2 * h.val + t.val % 2, by omega⟩ : Fin 96) d : S96x96.Idx) (ix2 (codeAt t h) (Fin.castLE (by decide) d)) ?_ ?_ 32 le_rfl hp
  · rw [this]
    show interleaveRows S96x96 (codeRow c a g ⟨2 * (t.val / 2), _⟩) (codeRow c a g ⟨2 * (t.val / 2) + 1, _⟩) bitcasts_S96x96_w16_S48x96_w32 (ix2 (⟨2 * h.val + t.val % 2, _⟩ : Fin 96) d) = _
    simp only [pointwise]
    have e0 : (2 * h.val + t.val % 2) / 2 = h.val := by omega
    have eh : (⟨(2 * h.val + t.val % 2) / 2, by omega⟩ : Fin 48) = h := Fin.ext e0
    by_cases e : t.val % 2 = 0
    · rw [if_pos (by omega)]
      have et : (⟨2 * (t.val / 2), by omega⟩ : Fin 64) = t := Fin.ext (by show 2 * (t.val / 2) = t.val; omega)
      rw [et]
      exact congrArg (codeRow c a g t) (congrArg (fun z : Fin 48 => (ix2 z d : S48x96.Idx)) eh)
    · rw [if_neg (by omega)]
      have et : (⟨2 * (t.val / 2) + 1, by omega⟩ : Fin 64) = t := Fin.ext (by show 2 * (t.val / 2) + 1 = t.val; omega)
      rw [et]
      exact congrArg (codeRow c a g t) (congrArg (fun z : Fin 48 => (ix2 z d : S48x96.Idx)) eh)
  · funext x; fin_cases x <;> apply Fin.ext
    · show 104 * (t.val / 2) + 1 * (2 * h.val + t.val % 2) = 104 * (t.val / 2) + 2 * h.val + t.val % 2; omega
    · show 0 + 1 * d.val = d.val; omega
  · intro k hk
    have h1 := (Rect.mem_set_unit (inb := pairInb k)).1 hk 0
    have h2 : 104 * k.val ≤ 104 * (t.val / 2) + 2 * h.val + t.val % 2 ∧ 104 * (t.val / 2) + 2 * h.val + t.val % 2 < 104 * k.val + 96 := h1
    exact Fin.ext (by show k.val = t.val / 2; omega)

/-- The lanes the codes do not reach keep what they held. -/
theorem pad_at (v : View sig .tc .vmem S3328x128 .bf16) (g0 : v.ty.Contents (Elt Ideal)) (a : Memref sig .tc .vmem S1x64x48x96 .fp8e4m3) (g : Bf (F := Ideal) c a)
    (r : Fin 3328) (d : Fin 128) (hd : 96 ≤ d.val) :
    v.read (Elt Ideal) (v.writes (Elt Ideal) g0 (below (pairPiece c a g) 32 le_rfl)) (ix2 r d) = v.read (Elt Ideal) g0 (ix2 r d) := by
  refine View.read_writes_apply_of_forall_not_mem v g0 _ _ fun p hp hm => ?_
  obtain ⟨k, -, rfl⟩ := (mem_below _ _ _ _).1 hp
  have h1 := (Rect.mem_set_unit (inb := pairInb k)).1 hm 1
  have h2 : 0 ≤ d.val ∧ d.val < 0 + 96 := h1
  omega

/-- A head's state and outputs, once stored. -/
theorem states_at (v : View sig .tc .vmem S1x48x96x128 .f32) (g0 : v.ty.Contents (Elt Ideal)) (p : Fin 48 → FVec Ideal S96x128 .f32) (h : Fin 48) (d : Fin 96) (e : Fin 128) :
    v.read (Elt Ideal) (v.writes (Elt Ideal) g0 (below (fun h => statePiece h (p h)) 48 le_rfl)) (ix4 0 h d e) = p h (ix2 d e) := by
  have := read_below v g0 (fun h => statePiece h (p h)) h (ix4 0 0 d e : S1x1x96x128.Idx) (ix4 0 h d e) ?_ ?_ 48 le_rfl h.isLt
  · rw [this]
    show shapeCast S1x1x96x128 (p h) shapeCasts_S96x128_S1x1x96x128 (ix4 0 0 d e) = _
    simp only [pointwise]
  · funext x; fin_cases x <;> apply Fin.ext
    · rfl
    · show h.val + 1 * 0 = h.val; omega
    · show 0 + 1 * d.val = d.val; omega
    · show 0 + 1 * e.val = e.val; omega
  · intro k hk
    have h1 := (Rect.mem_set_unit (inb := stateInb k)).1 hk 1
    have h2 : k.val ≤ h.val ∧ h.val < k.val + 1 := h1
    exact Fin.ext (by omega)

theorem outs_at (v : View sig .tc .vmem S1x64x6144 .bf16) (g0 : v.ty.Contents (Elt Ideal)) (p : Fin 48 → FVec Ideal S64x128 .bf16) (h : Fin 48) (t : Fin 64) (e : Fin 128) :
    v.read (Elt Ideal) (v.writes (Elt Ideal) g0 (below (fun h => outPiece h (p h)) 48 le_rfl)) (ix3 0 t (⟨128 * h.val + e.val, by omega⟩ : Fin 6144)) = p h (ix2 t e) := by
  have := read_below v g0 (fun h => outPiece h (p h)) h (ix3 0 t e : S1x64x128.Idx) (ix3 0 t (⟨128 * h.val + e.val, by omega⟩ : Fin 6144)) ?_ ?_ 48 le_rfl h.isLt
  · rw [this]
    show shapeCast S1x64x128 (p h) shapeCasts_S64x128_S1x64x128 (ix3 0 t e) = _
    simp only [pointwise]
  · funext x; fin_cases x <;> apply Fin.ext
    · rfl
    · show 0 + 1 * t.val = t.val; omega
    · show 128 * h.val + 1 * e.val = 128 * h.val + e.val; omega
  · intro k hk
    have h1 := (Rect.mem_set_unit (inb := outInb k)).1 hk 2
    have h2 : 128 * k.val ≤ 128 * h.val + e.val ∧ 128 * h.val + e.val < 128 * k.val + 128 := h1
    exact Fin.ext (by omega)

end Cert.KernelIdeal.Hand
-- ==== Proof.BodyValue.lean ====
module

public import proofs.«01_k».proof.Proof.BodyReads

@[expose] public section

set_option maxRecDepth 16384

noncomputable section

namespace Cert.KernelIdeal.Hand

open Cert.KernelIdeal Cert.KernelIdeal.Gen Cert.KernelIdeal.Facts Idealize.ShloMosaic

/-! One run of the body over the extended reals, on finite blocks: the outputs and the states it leaves. -/

/-- The numbers of one chunk of one sequence: codes, gates, scales and values by position and head. -/
structure Chunk where
  q : Fin 64 → Fin 48 → Fin 96 → ℝ
  qs : Fin 64 → Fin 48 → ℝ
  k : Fin 64 → Fin 48 → Fin 96 → ℝ
  ks : Fin 64 → Fin 48 → ℝ
  v : Fin 64 → Fin 48 → Fin 128 → ℝ
  g : Fin 64 → Fin 48 → Fin 96 → ℝ
  bt : Fin 64 → Fin 48 → ℝ

namespace Chunk
variable (C : Chunk) (h : Fin 48)

/-- Head `h`'s running sums of gates, codes, values and scales. -/
def G : Matrix (Fin 64) (Fin 96) ℝ := fun t d => ∑ s : Fin 64, if s.val ≤ t.val then C.g s h d else 0
def K : Matrix (Fin 64) (Fin 96) ℝ := fun t d => C.k t h d
def Q : Matrix (Fin 64) (Fin 96) ℝ := fun t d => C.q t h d
def V : Matrix (Fin 64) (Fin 128) ℝ := fun t e => C.v t h e
def a (t : Fin 64) : ℝ := C.ks t h * C.bt t h
def c (t : Fin 64) : ℝ := C.ks t h * (C.ks t h * C.bt t h)
def s (t : Fin 64) : ℝ := C.qs t h

/-- The state after the chunk and the outputs of the chunk, from the state `S` before it. -/
def next (S : Matrix (Fin 96) (Fin 128) ℝ) : Matrix (Fin 96) (Fin 128) ℝ := headStateR (C.G h) (C.K h) (C.a h) (C.c h) (C.V h) S
def out (S : Matrix (Fin 96) (Fin 128) ℝ) (t : Fin 64) (e : Fin 128) : EReal :=
  headOutR (Scalar.ofBits (F := Ideal) .f32 0x3DD105EC#32) (C.G h) (C.K h) (C.Q h) (C.a h) (C.c h) (C.s h) (C.V h) S t e
end Chunk

/-- The lanes past the 96th of a code scratch are zero. -/
def Padded (v : View sig .tc .vmem S3328x128 .bf16) (g : v.ty.Contents (Elt Ideal)) : Prop :=
  ∀ (r : Fin 3328) (d : Fin 128), 96 ≤ d.val → v.read (Elt Ideal) g (ix2 r d) = 0

theorem eq_lift {m n : ℕ} {f : (⟨2, ![m, n]⟩ : Shape).Idx → EReal} {M : Matrix (Fin m) (Fin n) ℝ} (h : ∀ i j, f (ix2 i j) = ((M i j : ℝ) : EReal)) : f = lift M :=
  ext2 fun i j => (h i j).trans (by simp only [lift]; rfl)

variable (c : Dev nD) (i : grid0.Coords)
    (arg2 : Memref sig .tc .vmem S1x64x48x96 .fp8e4m3) (harg2 : arg2.IsWhole)
    (arg3 : Memref sig .tc .vmem S1x64x48 .f32) (harg3 : arg3.IsWhole)
    (arg4 : Memref sig .tc .vmem S1x64x48x96 .fp8e4m3) (harg4 : arg4.IsWhole)
    (arg5 : Memref sig .tc .vmem S1x64x48 .f32) (harg5 : arg5.IsWhole)
    (arg6 : Memref sig .tc .vmem S1x64x48x128 .bf16) (harg6 : arg6.IsWhole)
    (arg7 : Memref sig .tc .vmem S1x64x48x96 .f32) (harg7 : arg7.IsWhole)
    (arg8 : Memref sig .tc .vmem S1x64x48 .f32) (harg8 : arg8.IsWhole)
    (arg9 : Memref sig .tc .vmem S1x48x96x128 .f32) (harg9 : arg9.IsWhole)
    (arg10 : Memref sig .tc .vmem S1x64x6144 .bf16) (harg10 : arg10.IsWhole)
    (arg11 : Memref sig .tc .vmem S1x48x96x128 .f32) (harg11 : arg11.IsWhole)
    (arg12 : Memref sig .tc .vmem S3328x128 .f32) (harg12 : arg12.IsWhole)
    (arg13 : Memref sig .tc .vmem S3328x128 .bf16) (harg13 : arg13.IsWhole)
    (arg14 : Memref sig .tc .vmem S3328x128 .bf16) (harg14 : arg14.IsWhole)
    (f0 : Bf (F := Ideal) c arg2) (f1 : Bf (F := Ideal) c arg3) (f2 : Bf (F := Ideal) c arg4) (f3 : Bf (F := Ideal) c arg5) (f4 : Bf (F := Ideal) c arg6) (f5 : Bf (F := Ideal) c arg7) (f6 : Bf (F := Ideal) c arg8) (f7 : Bf (F := Ideal) c arg9) (f8 : Bf (F := Ideal) c arg10) (f9 : Bf (F := Ideal) c arg11) (f10 : Bf (F := Ideal) c arg12) (f11 : Bf (F := Ideal) c arg13) (f12 : Bf (F := Ideal) c arg14)

/-- The blocks hold the chunk's numbers. -/
structure Holds (C : Chunk) : Prop where
  q : ∀ t h d, arg2.view.read (Elt Ideal) f0 (ix4 0 t h d) = (C.q t h d : EReal)
  qs : ∀ t h, arg3.view.read (Elt Ideal) f1 (ix3 0 t h) = (C.qs t h : EReal)
  k : ∀ t h d, arg4.view.read (Elt Ideal) f2 (ix4 0 t h d) = (C.k t h d : EReal)
  ks : ∀ t h, arg5.view.read (Elt Ideal) f3 (ix3 0 t h) = (C.ks t h : EReal)
  v : ∀ t h e, arg6.view.read (Elt Ideal) f4 (ix4 0 t h e) = (C.v t h e : EReal)
  g : ∀ t h d, arg7.view.read (Elt Ideal) f5 (ix4 0 t h d) = (C.g t h d : EReal)
  bt : ∀ t h, arg8.view.read (Elt Ideal) f6 (ix3 0 t h) = (C.bt t h : EReal)

variable {c i arg2 arg3 arg4 arg5 arg6 arg7 arg8 arg9 arg10 arg11 arg12 arg13 arg14 f0 f1 f2 f3 f4 f5 f6 f7 f8 f9 f10 f11 f12} {C : Chunk}

theorem aCol_eq (H : Holds c arg2 arg3 arg4 arg5 arg6 arg7 arg8 f0 f1 f2 f3 f4 f5 f6 C) (h : Fin 48) :
    aCol h (perHead c arg8 f6) (perHead c arg5 f3) = liftC (C.a h) := by
  refine ext2 fun t z => ?_
  obtain rfl : z = 0 := Subsingleton.elim _ _
  unfold aCol
  simp only [pointwise]
  refine (congrArg₂ (fun x y : EReal => x * y) ((congrArg (perHead c arg5 f3) ?_).trans ((perHead_at c arg5 f3 t h).trans (H.ks t h))) ((congrArg (perHead c arg8 f6) ?_).trans ((perHead_at c arg8 f6 t h).trans (H.bt t h)))).trans ?_
  · congr 1; exact Fin.ext (by simp)
  · congr 1; exact Fin.ext (by simp)
  · exact (EReal.coe_mul _ _).symm

theorem cCol_eq (H : Holds c arg2 arg3 arg4 arg5 arg6 arg7 arg8 f0 f1 f2 f3 f4 f5 f6 C) (h : Fin 48) :
    cCol h (perHead c arg8 f6) (perHead c arg5 f3) = liftC (C.c h) := by
  refine ext2 fun t z => ?_
  obtain rfl : z = 0 := Subsingleton.elim _ _
  unfold cCol
  simp only [pointwise]
  have e0 : ∀ z, z = (ix2 t h : S64x48.Idx) → perHead c arg5 f3 z = (C.ks t h : EReal) := by rintro z rfl; exact (perHead_at c arg5 f3 t h).trans (H.ks t h)
  have e1 : ∀ z, z = (ix2 t h : S64x48.Idx) → perHead c arg8 f6 z = (C.bt t h : EReal) := by rintro z rfl; exact (perHead_at c arg8 f6 t h).trans (H.bt t h)
  refine (congrArg₂ (fun x y : EReal => x * y) (e0 _ ?_) (congrArg₂ (fun x y : EReal => x * y) (e0 _ ?_) (e1 _ ?_))).trans ?_
  iterate 3 (congr 1; exact Fin.ext (by simp))
  rw [← EReal.coe_mul, ← EReal.coe_mul]; rfl

theorem qCol_eq (H : Holds c arg2 arg3 arg4 arg5 arg6 arg7 arg8 f0 f1 f2 f3 f4 f5 f6 C) (h : Fin 48) :
    qCol h (perHead c arg3 f1) = liftC (C.s h) := by
  refine ext2 fun t z => ?_
  obtain rfl : z = 0 := Subsingleton.elim _ _
  unfold qCol
  simp only [pointwise]
  refine ((congrArg (perHead c arg3 f1) ?_).trans ((perHead_at c arg3 f1 t h).trans (H.qs t h)))
  congr 1; exact Fin.ext (by simp)

theorem valRead_eq (H : Holds c arg2 arg3 arg4 arg5 arg6 arg7 arg8 f0 f1 f2 f3 f4 f5 f6 C) (h : Fin 48) :
    valRead c h arg6 f4 = lift (C.V h) :=
  eq_lift fun t e => (valRead_at c h arg6 f4 t e).trans (H.v t h e)

/-- The lanes past the 96th after the stores. -/
theorem padded_scr13 (hP : bodyRun.sl.v2 i = 1#1 ∨ Padded arg13.view f11) : Padded arg13.view (scr13 c i arg4 arg13 f2 f11) := by
  intro r d hd
  unfold scr13
  rw [run_keys, pad_at _ _ _ _ _ _ _ hd]
  split
  · refine (read_full _ _ _ (by decide) _ _ _).trans ?_
    unfold zero13
    simp only [pointwise]
  · rename_i hn; exact (hP.resolve_left hn) r d hd

theorem padded_scr14 (hP : bodyRun.sl.v2 i = 1#1 ∨ Padded arg14.view f12) : Padded arg14.view (scr14 c i arg2 arg14 f0 f12) := by
  intro r d hd
  unfold scr14
  rw [run_queries, pad_at _ _ _ _ _ _ _ hd]
  split
  · refine (read_full _ _ _ (by decide) _ _ _).trans ?_
    unfold zero13
    simp only [pointwise]
  · rename_i hn; exact (hP.resolve_left hn) r d hd

/-- Each head finds the chunk's running sums and codes in the scratch. -/
theorem reals (H : Holds c arg2 arg3 arg4 arg5 arg6 arg7 arg8 f0 f1 f2 f3 f4 f5 f6 C)
    (hP : bodyRun.sl.v2 i = 1#1 ∨ Padded arg13.view f11 ∧ Padded arg14.view f12) (h : Fin 48) :
    Reals (gcRead c h arg12 (scr12 c i arg7 arg12 f5 f10)) (codeRead c h arg13 harg13 (scr13 c i arg4 arg13 f2 f11))
      (codeRead c h arg14 harg14 (scr14 c i arg2 arg14 f0 f12)) (C.G h) (C.K h) (C.Q h) where
  hgc t d := by
    rw [gcRead_at]; unfold scr12; rw [run_sums, sums_at]; exact gateSum_at c arg7 f5 C.g H.g h d t.val t.isLt
  hkb t d := by
    rw [codeRead_at]; unfold scr13; rw [run_keys, codes_at, codeRow_at]; exact H.k t h d
  hqb t d := by
    rw [codeRead_at]; unfold scr14; rw [run_queries, codes_at, codeRow_at]; exact H.q t h d
  hkb0 t d hd := by
    rw [codeRead_at]; exact padded_scr13 (hP.imp id And.left) _ _ hd
  hqb0 t d hd := by
    rw [codeRead_at]; exact padded_scr14 (hP.imp id And.right) _ _ hd

/-- The state a head starts from. -/
theorem stateRead_eq {S : Fin 48 → Matrix (Fin 96) (Fin 128) ℝ}
    (hS : ∀ h d e, (if bodyRun.sl.v2 i = 1#1 then arg9.view.read (Elt Ideal) f7 (ix4 0 h d e) else arg11.view.read (Elt Ideal) f9 (ix4 0 h d e)) = (S h d e : EReal)) (h : Fin 48) :
    stateRead c h arg11 (stateStart c i arg9 arg11 f7 f9) = lift (S h) := by
  refine eq_lift fun d e => ?_
  rw [stateRead_at]
  refine Eq.trans ?_ (hS h d e)
  unfold stateStart
  split
  · refine (read_full _ _ _ (by decide) _ _ _).trans ?_
    refine readAt_at _ _ _ _ _ fun x => ?_
    fin_cases x
    · rfl
    · show 0 + 1 * h.val = h.val; omega
    · show 0 + 1 * d.val = d.val; omega
    · show 0 + 1 * e.val = e.val; omega
  · rfl

/-- What a run leaves. -/
theorem run_value (H : Holds c arg2 arg3 arg4 arg5 arg6 arg7 arg8 f0 f1 f2 f3 f4 f5 f6 C)
    (hP : bodyRun.sl.v2 i = 1#1 ∨ Padded arg13.view f11 ∧ Padded arg14.view f12)
    {S : Fin 48 → Matrix (Fin 96) (Fin 128) ℝ}
    (hS : ∀ h d e, (if bodyRun.sl.v2 i = 1#1 then arg9.view.read (Elt Ideal) f7 (ix4 0 h d e) else arg11.view.read (Elt Ideal) f9 (ix4 0 h d e)) = (S h d e : EReal)) :
    ∀ R, R = run c i arg2 harg2 arg3 harg3 arg4 harg4 arg5 harg5 arg6 harg6 arg7 harg7 arg8 harg8 arg9 harg9 arg10 harg10 arg11 harg11 arg12 harg12 arg13 harg13 arg14 harg14 f0 f1 f2 f3 f4 f5 f6 f7 f8 f9 f10 f11 f12 →
    (∀ (t : Fin 64) (h : Fin 48) (e : Fin 128), arg10.view.read (Elt Ideal) R.1 (ix3 0 t (⟨128 * h.val + e.val, by omega⟩ : Fin 6144)) = C.out h (S h) t e)
    ∧ (∀ (h : Fin 48) (d : Fin 96) (e : Fin 128), arg11.view.read (Elt Ideal) R.2.1 (ix4 0 h d e) = (C.next h (S h) d e : EReal))
    ∧ Padded arg13.view R.2.2.2.1 ∧ Padded arg14.view R.2.2.2.2 := by
  intro R hR
  rw [run_eq] at hR
  subst hR
  refine ⟨fun t h e => ?_, fun h d e => ?_, padded_scr13 (hP.imp id And.left), padded_scr14 (hP.imp id And.right)⟩
  · dsimp only
    refine (outs_at _ _ (fun h => OU c i arg2 arg3 arg4 arg5 arg6 arg7 arg8 arg9 arg11 arg12 arg13 harg13 arg14 harg14 f0 f1 f2 f3 f4 f5 f6 f7 f9 f10 f11 f12 h) h t e).trans ?_
    show outOf c i arg3 arg5 arg6 arg8 arg9 arg11 arg12 arg13 harg13 arg14 harg14 f1 f3 f4 f6 f7 f9 _ _ _ h (ix2 t e) = _
    unfold outOf
    rw [aCol_eq H, cCol_eq H, qCol_eq H, valRead_eq H, stateRead_eq hS]
    exact headOut_real (reals harg13 harg14 H hP h) _ _ _ _ _ _
  · dsimp only
    refine (states_at _ _ (fun h => ST c i arg2 arg4 arg5 arg6 arg7 arg8 arg9 arg11 arg12 arg13 harg13 arg14 harg14 f0 f2 f3 f4 f5 f6 f7 f9 f10 f11 f12 h) h d e).trans ?_
    show stateOf c i arg5 arg6 arg8 arg9 arg11 arg12 arg13 harg13 arg14 harg14 f3 f4 f6 f7 f9 _ _ _ h (ix2 d e) = _
    unfold stateOf
    rw [aCol_eq H, cCol_eq H, valRead_eq H, stateRead_eq hS, headState_real (reals harg13 harg14 H hP h)]
    rfl

end Cert.KernelIdeal.Hand
-- ==== Proof.KernelIdealValue.lean ====
module

public import proofs.«01_k».proof.Proof.BodyValue
public import proofs.«01_k».proof.Proof.KernelIdealFrame
public import Idealize.ShloMosaic.Lib.Pipeline.ValueKit.Geometry

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! What the kernel leaves in its two results, on finite arguments. -/

/-- The numbers the arguments hold. -/
structure Inputs where
  q : Fin 2 → Fin 512 → Fin 48 → Fin 96 → ℝ
  qs : Fin 2 → Fin 512 → Fin 48 → ℝ
  k : Fin 2 → Fin 512 → Fin 48 → Fin 96 → ℝ
  ks : Fin 2 → Fin 512 → Fin 48 → ℝ
  v : Fin 2 → Fin 512 → Fin 48 → Fin 128 → ℝ
  g : Fin 2 → Fin 512 → Fin 48 → Fin 96 → ℝ
  bt : Fin 2 → Fin 512 → Fin 48 → ℝ
  h0 : Fin 2 → Fin 48 → Matrix (Fin 96) (Fin 128) ℝ

/-- Position `r` of chunk `n` in the sequence. -/
def pos (n : Fin 8) (r : Fin 64) : Fin 512 := ⟨64 * n.val + r.val, by omega⟩

namespace Inputs
variable (X : Inputs)

/-- Chunk `n` of sequence `b`. -/
def chunk (b : Fin 2) (n : Fin 8) : Chunk where
  q r := X.q b (pos n r)
  qs r := X.qs b (pos n r)
  k r := X.k b (pos n r)
  ks r := X.ks b (pos n r)
  v r := X.v b (pos n r)
  g r := X.g b (pos n r)
  bt r := X.bt b (pos n r)

/-- The state of head `h` of sequence `b` before chunk `n`. -/
def state (b : Fin 2) (h : Fin 48) : ℕ → Matrix (Fin 96) (Fin 128) ℝ
  | 0 => X.h0 b h
  | n + 1 => (X.chunk b ⟨n % 8, Nat.mod_lt _ (by decide)⟩).next h (state b h n)

/-- The output block of a chunk. -/
def outBlock (b : Fin 2) (n : Fin 8) : S1x64x6144.Idx → EReal := fun y =>
  let h : Fin 48 := ⟨(y 2).val / 128, by have h : (y 2).val < 6144 := (y 2).isLt; omega⟩
  (X.chunk b n).out h (X.state b h n.val) (y 1) ⟨(y 2).val % 128, Nat.mod_lt _ (by decide)⟩

/-- The states of a sequence before chunk `n`. -/
def stateBlock (b : Fin 2) (n : ℕ) : S1x48x96x128.Idx → EReal := fun y =>
  ((X.state b (y 1) n (y 2) (y 3) : ℝ) : EReal)
end Inputs

variable (m : (ℓ : Loc nD τ sig) → Buf (Elt Ideal) ℓ) (ρ : Dev nD → PrngReg)

/-- Core `c`'s arguments hold the numbers `X`. -/
structure ArgsHold (c : Dev nD) (X : Inputs) : Prop where
  q : ∀ b t h d, m ((c.tc : Thread nD τ).loc main_arg0) (ix4 b t h d) = (X.q b t h d : EReal)
  qs : ∀ b t h, m ((c.tc : Thread nD τ).loc main_arg1) (ix3 b t h) = (X.qs b t h : EReal)
  k : ∀ b t h d, m ((c.tc : Thread nD τ).loc main_arg2) (ix4 b t h d) = (X.k b t h d : EReal)
  ks : ∀ b t h, m ((c.tc : Thread nD τ).loc main_arg3) (ix3 b t h) = (X.ks b t h : EReal)
  v : ∀ b t h e, m ((c.tc : Thread nD τ).loc main_arg4) (ix4 b t h e) = (X.v b t h e : EReal)
  g : ∀ b t h d, m ((c.tc : Thread nD τ).loc main_arg5) (ix4 b t h d) = (X.g b t h d : EReal)
  bt : ∀ b t h, m ((c.tc : Thread nD τ).loc main_arg6) (ix3 b t h) = (X.bt b t h : EReal)
  h0 : ∀ b h d e, m ((c.tc : Thread nD τ).loc main_arg7) (ix4 b h d e) = (X.h0 b h d e : EReal)

/-- The sequence and the chunk of a grid point. -/
def bOf (t : Fin cfg0.N) : Fin 2 := ⟨t.val / 8, by have : t.val < 16 := lt_of_lt_of_eq t.isLt N_0; omega⟩
def nOf (t : Fin cfg0.N) : Fin 8 := ⟨t.val % 8, by omega⟩

theorem idx0 : ∀ t : Fin cfg0.N, win0_0.index t = ![t.val / 8, t.val % 8, 0, 0] := (by decide +kernel : ∀ t : Fin grid0.N, win0_0.index t = ![t.val / 8, t.val % 8, 0, 0])
theorem idx1 : ∀ t : Fin cfg0.N, win0_1.index t = ![t.val / 8, t.val % 8, 0] := (by decide +kernel : ∀ t : Fin grid0.N, win0_1.index t = ![t.val / 8, t.val % 8, 0])
theorem idx2 : ∀ t : Fin cfg0.N, win0_2.index t = ![t.val / 8, t.val % 8, 0, 0] := (by decide +kernel : ∀ t : Fin grid0.N, win0_2.index t = ![t.val / 8, t.val % 8, 0, 0])
theorem idx3 : ∀ t : Fin cfg0.N, win0_3.index t = ![t.val / 8, t.val % 8, 0] := (by decide +kernel : ∀ t : Fin grid0.N, win0_3.index t = ![t.val / 8, t.val % 8, 0])
theorem idx4 : ∀ t : Fin cfg0.N, win0_4.index t = ![t.val / 8, t.val % 8, 0, 0] := (by decide +kernel : ∀ t : Fin grid0.N, win0_4.index t = ![t.val / 8, t.val % 8, 0, 0])
theorem idx5 : ∀ t : Fin cfg0.N, win0_5.index t = ![t.val / 8, t.val % 8, 0, 0] := (by decide +kernel : ∀ t : Fin grid0.N, win0_5.index t = ![t.val / 8, t.val % 8, 0, 0])
theorem idx6 : ∀ t : Fin cfg0.N, win0_6.index t = ![t.val / 8, t.val % 8, 0] := (by decide +kernel : ∀ t : Fin grid0.N, win0_6.index t = ![t.val / 8, t.val % 8, 0])
theorem idx7 : ∀ t : Fin cfg0.N, win0_7.index t = ![t.val / 8, 0, 0, 0] := (by decide +kernel : ∀ t : Fin grid0.N, win0_7.index t = ![t.val / 8, 0, 0, 0])
theorem idx8 : ∀ t : Fin cfg0.N, win0_8.index t = ![t.val / 8, t.val % 8, 0] := (by decide +kernel : ∀ t : Fin grid0.N, win0_8.index t = ![t.val / 8, t.val % 8, 0])
theorem idx9 : ∀ t : Fin cfg0.N, win0_9.index t = ![t.val / 8, 0, 0, 0] := (by decide +kernel : ∀ t : Fin grid0.N, win0_9.index t = ![t.val / 8, 0, 0, 0])

/-- The body's first condition: the sequence's first chunk. -/
theorem first_iff : ∀ t : Fin cfg0.N, bodyRun.sl.v2 (grid0.coords t) = 1#1 ↔ t.val % 8 = 0 :=
  (by decide +kernel : ∀ t : Fin grid0.N, bodyRun.sl.v2 (grid0.coords t) = 1#1 ↔ t.val % 8 = 0)

variable {m} {X : Inputs} {c : Dev nD}

theorem V_v1 (c : Dev nD) (x : S2x512x48x96.Idx) : V m c main_v1 x = m ((c.tc : Thread nD τ).loc main_arg2) x := by
  rfl
theorem V_v0 (c : Dev nD) (x : S2x512x48x96.Idx) : V m c main_v0 x = m ((c.tc : Thread nD τ).loc main_arg0) x := by
  rfl

theorem blk0 (A : ArgsHold m c X) (t : Fin cfg0.N) (r : Fin 64) (h : Fin 48) (d : Fin 96) :
    iblk m c 0 t (ix4 0 r h d) = ((X.q (bOf t) (pos (nOf t) r) h d : ℝ) : EReal) := by
  refine Eq.trans ?_ (A.q _ _ _ _)
  blk_simp [iblk, idx0]
  refine (V_v0 c _).trans ?_
  refine congrArg (m _) (funext fun a => Fin.ext ?_)
  fin_cases a <;> blk_simp [idx0] <;> simp [bOf, nOf, pos] <;> omega

theorem blk1 (A : ArgsHold m c X) (t : Fin cfg0.N) (r : Fin 64) (h : Fin 48) :
    iblk m c 1 t (ix3 0 r h) = ((X.qs (bOf t) (pos (nOf t) r) h : ℝ) : EReal) := by
  refine Eq.trans ?_ (A.qs _ _ _)
  blk_simp [iblk, idx1]
  rw [V_main_arg1]
  refine congrArg (m _) (funext fun a => Fin.ext ?_)
  fin_cases a <;> blk_simp [idx1] <;> simp [bOf, nOf, pos] <;> omega

theorem blk2 (A : ArgsHold m c X) (t : Fin cfg0.N) (r : Fin 64) (h : Fin 48) (d : Fin 96) :
    iblk m c 2 t (ix4 0 r h d) = ((X.k (bOf t) (pos (nOf t) r) h d : ℝ) : EReal) := by
  refine Eq.trans ?_ (A.k _ _ _ _)
  blk_simp [iblk, idx2]
  refine (V_v1 c _).trans ?_
  refine congrArg (m _) (funext fun a => Fin.ext ?_)
  fin_cases a <;> blk_simp [idx2] <;> simp [bOf, nOf, pos] <;> omega

theorem blk3 (A : ArgsHold m c X) (t : Fin cfg0.N) (r : Fin 64) (h : Fin 48) :
    iblk m c 3 t (ix3 0 r h) = ((X.ks (bOf t) (pos (nOf t) r) h : ℝ) : EReal) := by
  refine Eq.trans ?_ (A.ks _ _ _)
  blk_simp [iblk, idx3]
  rw [V_main_arg3]
  refine congrArg (m _) (funext fun a => Fin.ext ?_)
  fin_cases a <;> blk_simp [idx3] <;> simp [bOf, nOf, pos] <;> omega

theorem blk4 (A : ArgsHold m c X) (t : Fin cfg0.N) (r : Fin 64) (h : Fin 48) (d : Fin 128) :
    iblk m c 4 t (ix4 0 r h d) = ((X.v (bOf t) (pos (nOf t) r) h d : ℝ) : EReal) := by
  refine Eq.trans ?_ (A.v _ _ _ _)
  blk_simp [iblk, idx4]
  rw [V_main_arg4]
  refine congrArg (m _) (funext fun a => Fin.ext ?_)
  fin_cases a <;> blk_simp [idx4] <;> simp [bOf, nOf, pos] <;> omega

theorem blk5 (A : ArgsHold m c X) (t : Fin cfg0.N) (r : Fin 64) (h : Fin 48) (d : Fin 96) :
    iblk m c 5 t (ix4 0 r h d) = ((X.g (bOf t) (pos (nOf t) r) h d : ℝ) : EReal) := by
  refine Eq.trans ?_ (A.g _ _ _ _)
  blk_simp [iblk, idx5]
  rw [V_main_arg5]
  refine congrArg (m _) (funext fun a => Fin.ext ?_)
  fin_cases a <;> blk_simp [idx5] <;> simp [bOf, nOf, pos] <;> omega

theorem blk6 (A : ArgsHold m c X) (t : Fin cfg0.N) (r : Fin 64) (h : Fin 48) :
    iblk m c 6 t (ix3 0 r h) = ((X.bt (bOf t) (pos (nOf t) r) h : ℝ) : EReal) := by
  refine Eq.trans ?_ (A.bt _ _ _)
  blk_simp [iblk, idx6]
  rw [V_main_arg6]
  refine congrArg (m _) (funext fun a => Fin.ext ?_)
  fin_cases a <;> blk_simp [idx6] <;> simp [bOf, nOf, pos] <;> omega

theorem blk7 (A : ArgsHold m c X) (t : Fin cfg0.N) (h : Fin 48) (d : Fin 96) (e : Fin 128) :
    iblk m c 7 t (ix4 0 h d e) = ((X.h0 (bOf t) h d e : ℝ) : EReal) := by
  refine Eq.trans ?_ (A.h0 _ _ _ _)
  blk_simp [iblk, idx7]
  rw [V_main_arg7]
  refine congrArg (m _) (funext fun a => Fin.ext ?_)
  fin_cases a <;> blk_simp [idx7] <;> simp [bOf, nOf, pos]

/-! ## The proof data -/

/-- Between the points: within a sequence the code scratch buffers have zeros beyond column 96. -/
def PhiV (c : Dev nD) (n : ℕ) : sProp 𝕄 :=
  iprop(((∃ s : Buf (Elt Ideal) ((c : Thread nD τ).loc cc0_scratch0), ((c : Thread nD τ).loc cc0_scratch0) ↦{fullShare} s)
      ∗ (∃ s : Buf (Elt Ideal) ((c : Thread nD τ).loc cc0_scratch1), ⌜n % 8 ≠ 0 → Padded (Memref.whole cc0_scratch1).view s⌝ ∗ ((c : Thread nD τ).loc cc0_scratch1) ↦{fullShare} s)
      ∗ (∃ s : Buf (Elt Ideal) ((c : Thread nD τ).loc cc0_scratch2), ⌜n % 8 ≠ 0 → Padded (Memref.whole cc0_scratch2).view s⌝ ∗ ((c : Thread nD τ).loc cc0_scratch2) ↦{fullShare} s))
      ∗ ∃ r, prngReg c r)

variable (m X)

/-- The proof data: each argument's block stays in its buffer, the results hold the outputs and the states. -/
def vdats (X : Dev nD → Inputs) (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (X c).outBlock (bOf t) (nOf t)
    | ⟨9, _⟩ => (X c).stateBlock (bOf t) (t.val % 8 + 1)
  Φ t := PhiV c t.val
  q _ := fullShare
  owed _ := 0

variable (Y : Dev nD → Inputs)

theorem vA_eq (c : Dev nD) (w : Fin cfg0.W) : (vdats m Y 0 c).A w = V m c (Pipeline.arrRef spec0 w) := by
  dsimp only [vdats]

theorem vafter_0 (c : Dev nD) (t : Fin cfg0.N) : (vdats m Y 0 c).after 0 t = iblk m c 0 t := by dsimp only [vdats]
theorem vafter_1 (c : Dev nD) (t : Fin cfg0.N) : (vdats m Y 0 c).after 1 t = iblk m c 1 t := by dsimp only [vdats]
theorem vafter_2 (c : Dev nD) (t : Fin cfg0.N) : (vdats m Y 0 c).after 2 t = iblk m c 2 t := by dsimp only [vdats]
theorem vafter_3 (c : Dev nD) (t : Fin cfg0.N) : (vdats m Y 0 c).after 3 t = iblk m c 3 t := by dsimp only [vdats]
theorem vafter_4 (c : Dev nD) (t : Fin cfg0.N) : (vdats m Y 0 c).after 4 t = iblk m c 4 t := by dsimp only [vdats]
theorem vafter_5 (c : Dev nD) (t : Fin cfg0.N) : (vdats m Y 0 c).after 5 t = iblk m c 5 t := by dsimp only [vdats]
theorem vafter_6 (c : Dev nD) (t : Fin cfg0.N) : (vdats m Y 0 c).after 6 t = iblk m c 6 t := by dsimp only [vdats]
theorem vafter_7 (c : Dev nD) (t : Fin cfg0.N) : (vdats m Y 0 c).after 7 t = iblk m c 7 t := by dsimp only [vdats]
theorem vafter_8 (c : Dev nD) (t : Fin cfg0.N) : (vdats m Y 0 c).after 8 t = (Y c).outBlock (bOf t) (nOf t) := by dsimp only [vdats]
theorem vafter_9 (c : Dev nD) (t : Fin cfg0.N) : (vdats m Y 0 c).after 9 t = (Y c).stateBlock (bOf t) (t.val % 8 + 1) := by dsimp only [vdats]

theorem vbefore_0 (c : Dev nD) (t : Fin cfg0.N) (d) : (vdats m Y 0 c).before 0 t d = iblk m c 0 t :=
  before0_0_of m (vdats m Y 0 c) (vA_eq m Y c 0) (vafter_0 m Y c) t d
theorem vbefore_1 (c : Dev nD) (t : Fin cfg0.N) (d) : (vdats m Y 0 c).before 1 t d = iblk m c 1 t :=
  before0_1_of m (vdats m Y 0 c) (vA_eq m Y c 1) (vafter_1 m Y c) t d
theorem vbefore_2 (c : Dev nD) (t : Fin cfg0.N) (d) : (vdats m Y 0 c).before 2 t d = iblk m c 2 t :=
  before0_2_of m (vdats m Y 0 c) (vA_eq m Y c 2) (vafter_2 m Y c) t d
theorem vbefore_3 (c : Dev nD) (t : Fin cfg0.N) (d) : (vdats m Y 0 c).before 3 t d = iblk m c 3 t :=
  before0_3_of m (vdats m Y 0 c) (vA_eq m Y c 3) (vafter_3 m Y c) t d
theorem vbefore_4 (c : Dev nD) (t : Fin cfg0.N) (d) : (vdats m Y 0 c).before 4 t d = iblk m c 4 t :=
  before0_4_of m (vdats m Y 0 c) (vA_eq m Y c 4) (vafter_4 m Y c) t d
theorem vbefore_5 (c : Dev nD) (t : Fin cfg0.N) (d) : (vdats m Y 0 c).before 5 t d = iblk m c 5 t :=
  before0_5_of m (vdats m Y 0 c) (vA_eq m Y c 5) (vafter_5 m Y c) t d
theorem vbefore_6 (c : Dev nD) (t : Fin cfg0.N) (d) : (vdats m Y 0 c).before 6 t d = iblk m c 6 t :=
  before0_6_of m (vdats m Y 0 c) (vA_eq m Y c 6) (vafter_6 m Y c) t d
theorem vbefore_7 (c : Dev nD) (t : Fin cfg0.N) (d) : (vdats m Y 0 c).before 7 t d = iblk m c 7 t :=
  before0_7_of m (vdats m Y 0 c) (vA_eq m Y c 7) (vafter_7 m Y c) t d
/-- Past a sequence's first chunk the state buffer holds what the chunk before left. -/
theorem vbefore_9 (c : Dev nD) (t : Fin cfg0.N) (ht : t.val % 8 ≠ 0) (d) :
    (vdats m Y 0 c).before 9 t d = (Y c).stateBlock (bOf t) (t.val % 8) := by
  have h0 : t.val ≠ 0 := by omega
  have hp : t.val - 1 < cfg0.N := Nat.lt_of_le_of_lt (Nat.sub_le _ _) t.isLt
  rw [(vdats m Y 0 c).before_out_kept 9 rfl t h0
    (Bool.eq_false_iff.2 fun h => by have := (flush0_9 ⟨t.val - 1, hp⟩).1 h; dsimp only at this; omega) (fun _ => rfl) (fun _ _ => rfl) d,
    vafter_9, show bOf ⟨t.val - 1, hp⟩ = bOf t from Fin.ext (by simp only [bOf]; omega),
    show (t.val - 1) % 8 + 1 = t.val % 8 by omega]

theorem PhiV_castSucc (c : Dev nD) (t : Fin cfg0.N) : (vdats m Y 0 c).Φ t.castSucc = PhiV c t.val := by
  dsimp only [vdats]; rfl

/-! ## The body at a generic point -/

/-- What the body is called with at point `t`. -/
def vPre (c : Dev nD) (t : Fin cfg0.N) : sProp 𝕄 :=
  iprop((vdats m Y 0 c).Φ t.castSucc ∗ (vdats m Y 0 c).owesAt () t.castSucc
    ∗ (∃ d, owns (c : Thread nD τ) (ms0 t) fullShare ((vdats m Y 0 c).before 0 t d))
    ∗ (∃ d, owns (c : Thread nD τ) (ms1 t) fullShare ((vdats m Y 0 c).before 1 t d))
    ∗ (∃ d, owns (c : Thread nD τ) (ms2 t) fullShare ((vdats m Y 0 c).before 2 t d))
    ∗ (∃ d, owns (c : Thread nD τ) (ms3 t) fullShare ((vdats m Y 0 c).before 3 t d))
    ∗ (∃ d, owns (c : Thread nD τ) (ms4 t) fullShare ((vdats m Y 0 c).before 4 t d))
    ∗ (∃ d, owns (c : Thread nD τ) (ms5 t) fullShare ((vdats m Y 0 c).before 5 t d))
    ∗ (∃ d, owns (c : Thread nD τ) (ms6 t) fullShare ((vdats m Y 0 c).before 6 t d))
    ∗ (∃ d, owns (c : Thread nD τ) (ms7 t) fullShare ((vdats m Y 0 c).before 7 t d))
    ∗ (∃ d, owns (c : Thread nD τ) (ms8 t) fullShare ((vdats m Y 0 c).before 8 t d))
    ∗ (∃ d, owns (c : Thread nD τ) (ms9 t) fullShare ((vdats m Y 0 c).before 9 t d)))

/-- What it returns. -/
def vPost (c : Dev nD) (t : Fin cfg0.N) : sProp 𝕄 :=
  iprop((vdats m Y 0 c).Φ t.succ ∗ (vdats m Y 0 c).owesAt () t.succ
    ∗ owns (c : Thread nD τ) (ms0 t) fullShare ((vdats m Y 0 c).after 0 t)
    ∗ owns (c : Thread nD τ) (ms1 t) fullShare ((vdats m Y 0 c).after 1 t)
    ∗ owns (c : Thread nD τ) (ms2 t) fullShare ((vdats m Y 0 c).after 2 t)
    ∗ owns (c : Thread nD τ) (ms3 t) fullShare ((vdats m Y 0 c).after 3 t)
    ∗ owns (c : Thread nD τ) (ms4 t) fullShare ((vdats m Y 0 c).after 4 t)
    ∗ owns (c : Thread nD τ) (ms5 t) fullShare ((vdats m Y 0 c).after 5 t)
    ∗ owns (c : Thread nD τ) (ms6 t) fullShare ((vdats m Y 0 c).after 6 t)
    ∗ owns (c : Thread nD τ) (ms7 t) fullShare ((vdats m Y 0 c).after 7 t)
    ∗ owns (c : Thread nD τ) (ms8 t) fullShare ((vdats m Y 0 c).after 8 t)
    ∗ owns (c : Thread nD τ) (ms9 t) fullShare ((vdats m Y 0 c).after 9 t))

variable {m} {Y} {X}

/-- Blocks holding the arguments' entries, as the body finds them in its buffers. -/
theorem holds_of (A : ArgsHold m c X) (t : Fin cfg0.N)
    {f0 : Bf c (ms0 t)} {f1 : Bf c (ms1 t)} {f2 : Bf c (ms2 t)} {f3 : Bf c (ms3 t)} {f4 : Bf c (ms4 t)} {f5 : Bf c (ms5 t)} {f6 : Bf c (ms6 t)}
    (e0 : (ms0 t).view.read (Elt Ideal) f0 = iblk m c 0 t) (e1 : (ms1 t).view.read (Elt Ideal) f1 = iblk m c 1 t)
    (e2 : (ms2 t).view.read (Elt Ideal) f2 = iblk m c 2 t) (e3 : (ms3 t).view.read (Elt Ideal) f3 = iblk m c 3 t)
    (e4 : (ms4 t).view.read (Elt Ideal) f4 = iblk m c 4 t) (e5 : (ms5 t).view.read (Elt Ideal) f5 = iblk m c 5 t)
    (e6 : (ms6 t).view.read (Elt Ideal) f6 = iblk m c 6 t) :
    Holds c (ms0 t) (ms1 t) (ms2 t) (ms3 t) (ms4 t) (ms5 t) (ms6 t) f0 f1 f2 f3 f4 f5 f6 (X.chunk (bOf t) (nOf t)) where
  q r h d := (congrFun e0 _).trans (blk0 A t r h d)
  qs r h := (congrFun e1 _).trans (blk1 A t r h)
  k r h d := (congrFun e2 _).trans (blk2 A t r h d)
  ks r h := (congrFun e3 _).trans (blk3 A t r h)
  v r h e := (congrFun e4 _).trans (blk4 A t r h e)
  g r h d := (congrFun e5 _).trans (blk5 A t r h d)
  bt r h := (congrFun e6 _).trans (blk6 A t r h)

/-- One run of the body: the output block, the states, and the zeros kept. -/
theorem run_out (A : ArgsHold m c X) (t : Fin cfg0.N)
    {f0 : Bf c (ms0 t)} {f1 : Bf c (ms1 t)} {f2 : Bf c (ms2 t)} {f3 : Bf c (ms3 t)} {f4 : Bf c (ms4 t)} {f5 : Bf c (ms5 t)} {f6 : Bf c (ms6 t)}
    {f7 : Bf c (ms7 t)} {f8 : Bf c (ms8 t)} {f9 : Bf c (ms9 t)}
    {s0 : Bf c (Memref.whole cc0_scratch0)} {s1 : Bf c (Memref.whole cc0_scratch1)} {s2 : Bf c (Memref.whole cc0_scratch2)}
    (e0 : (ms0 t).view.read (Elt Ideal) f0 = iblk m c 0 t) (e1 : (ms1 t).view.read (Elt Ideal) f1 = iblk m c 1 t)
    (e2 : (ms2 t).view.read (Elt Ideal) f2 = iblk m c 2 t) (e3 : (ms3 t).view.read (Elt Ideal) f3 = iblk m c 3 t)
    (e4 : (ms4 t).view.read (Elt Ideal) f4 = iblk m c 4 t) (e5 : (ms5 t).view.read (Elt Ideal) f5 = iblk m c 5 t)
    (e6 : (ms6 t).view.read (Elt Ideal) f6 = iblk m c 6 t) (e7 : (ms7 t).view.read (Elt Ideal) f7 = iblk m c 7 t)
    (e9 : t.val % 8 ≠ 0 → (ms9 t).view.read (Elt Ideal) f9 = X.stateBlock (bOf t) (t.val % 8))
    (hP : t.val % 8 ≠ 0 → Padded (Memref.whole cc0_scratch1).view s1 ∧ Padded (Memref.whole cc0_scratch2).view s2) :
    ∀ R, R = run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
        (Memref.whole cc0_scratch0) (Memref.isWhole_whole _) (Memref.whole cc0_scratch1) (Memref.isWhole_whole _) (Memref.whole cc0_scratch2) (Memref.isWhole_whole _) f0 f1 f2 f3 f4 f5 f6 f7 f8 f9 s0 s1 s2 →
      (ms8 t).view.read (Elt Ideal) R.1 = X.outBlock (bOf t) (nOf t)
      ∧ (ms9 t).view.read (Elt Ideal) R.2.1 = X.stateBlock (bOf t) (t.val % 8 + 1)
      ∧ Padded (Memref.whole cc0_scratch1).view R.2.2.2.1 ∧ Padded (Memref.whole cc0_scratch2).view R.2.2.2.2 := by
  intro R hR
  obtain ⟨h1, h2, h3, h4⟩ := run_value (hs0 t) (hs1 t) (hs2 t) (hs3 t) (hs4 t) (hs5 t) (hs6 t) (hs7 t) (hs8 t) (hs9 t) (Memref.isWhole_whole _) (Memref.isWhole_whole _) (Memref.isWhole_whole _)
    (holds_of A t e0 e1 e2 e3 e4 e5 e6) (f7 := f7) (f9 := f9)
    (by by_cases h : t.val % 8 = 0
        · exact Or.inl ((first_iff t).2 h)
        · exact Or.inr (hP h))
    (S := fun h => X.state (bOf t) h (t.val % 8))
    (fun h d e => by
      by_cases hc : t.val % 8 = 0
      · rw [if_pos ((first_iff t).2 hc), e7, blk7 A, hc]; rfl
      · rw [if_neg (fun h => hc ((first_iff t).1 h)), e9 hc]; rfl) R hR
  refine ⟨?_, ?_, h3, h4⟩
  · funext y
    have hy : (y 2).val < 6144 := (y 2).isLt
    have := h1 (y 1) ⟨(y 2).val / 128, by omega⟩ ⟨(y 2).val % 128, Nat.mod_lt _ (by decide)⟩
    refine Eq.trans ?_ this
    refine congrArg _ ((eq_ix3 y).trans ?_)
    congr 1
    · exact Subsingleton.elim (α := Fin 1) _ _
    · exact Fin.ext (by dsimp only; omega)
  · funext y
    refine Eq.trans ?_ ((h2 (y 1) (y 2) (y 3)).trans ?_)
    · refine congrArg _ ((eq_ix4 y).trans ?_)
      congr 1
      exact Subsingleton.elim (α := Fin 1) _ _
    · unfold Inputs.stateBlock
      rw [show X.state (bOf t) (y 1) (t.val % 8 + 1) = (X.chunk (bOf t) ⟨t.val % 8 % 8, Nat.mod_lt _ (by decide)⟩).next (y 1) (X.state (bOf t) (y 1) (t.val % 8)) from rfl, show (⟨t.val % 8 % 8, Nat.mod_lt _ (by decide)⟩ : Fin 8) = nOf t from Fin.ext (Nat.mod_mod _ _)]

set_option maxHeartbeats 1000000 in
/-- The body at any point. -/
theorem vsound_body (A : ∀ c, ArgsHold m c (Y c)) (c : Dev nD) (t : Fin cfg0.N) :
    vPre m Y c t ⊢ wp Idealize.ShloMosaic.frame (wpE (defs₀ (F := Ideal)) Variants.none c none) Set.univ (bodyAt0 t) (fun _ => vPost m Y c t) := by
  unfold vPre vPost bodyAt0
  simp only [vbefore_0, vbefore_1, vbefore_2, vbefore_3, vbefore_4, vbefore_5, vbefore_6, vbefore_7]
  rw [show (vdats m Y 0 c).owesAt () t.succ = (vdats m Y 0 c).owesAt () t.castSucc from rfl,
    vafter_0, vafter_1, vafter_2, vafter_3, vafter_4, vafter_5, vafter_6, vafter_7, vafter_8, vafter_9]
  rw [PhiV_castSucc, show (vdats m Y 0 c).Φ t.succ = PhiV c (t.val + 1) from rfl]
  unfold PhiV owns
  simp only [(hs0 t).set_eq_univ, (hs1 t).set_eq_univ, (hs2 t).set_eq_univ, (hs3 t).set_eq_univ, (hs4 t).set_eq_univ, (hs5 t).set_eq_univ, (hs6 t).set_eq_univ, (hs7 t).set_eq_univ, (hs8 t).set_eq_univ, (hs9 t).set_eq_univ]
  iintro ⟨⟨⟨⟨%s0, S0⟩, ⟨%s1, %p1, S1⟩, ⟨%s2, %p2, S2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  obtain ⟨⟨W, hW⟩, hR⟩ : ∃ R, R = bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
        (Memref.whole cc0_scratch0) (Memref.isWhole_whole _) (Memref.whole cc0_scratch1) (Memref.isWhole_whole _) (Memref.whole cc0_scratch2) (Memref.isWhole_whole _) f0 f1 f2 f3 f4 f5 f6 f7 f8 f9 s0 s1 s2 := ⟨_, rfl⟩
  obtain ⟨r8, r9, r1, r2⟩ := run_out (f8 := f8) (s0 := s0) (A c) t e0 e1 e2 e3 e4 e5 e6 e7 (fun h => e9.trans (vbefore_9 m Y c t h d9)) (fun h => ⟨p1 h, p2 h⟩) W (congrArg Subtype.val hR)
  clear hR
  obtain ⟨w8, w9, w0, w1, w2⟩ := W
  iapply (hW Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]; · iexists w0; iexact S0
      isplitl [S1]
      · iexists w1; isplitr; · ipureintro; exact fun _ => r1
        iexact S1
      iexists w2; isplitr; · ipureintro; exact fun _ => r2
      iexact S2
    iexact Hg
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists w8; isplitr; · ipureintro; exact r8
    iexact H8
  iexists w9; isplitr; · ipureintro; exact r9
  iexact H9

theorem vbody_obligation (A : ∀ c, ArgsHold m c (Y c)) (c : Dev nD) : BodyObligation (vdats m Y 0 c) (defs₀ (F := Ideal)) Variants.none () Set.univ := fun t => by
  rw [bigSep_W0, bigSep_W0, defs₀_row]
  exact triple_restated (vsound_body A c t) rfl .rfl fun _ => .rfl

theorem v_hin (c : Dev nD) : Pipeline.ΦA spec0 c ⊢ (vdats m Y 0 c).Φ 0 := by
  rw [show (vdats m Y 0 c).Φ 0 = PhiV c 0 from rfl]
  unfold PhiV Pipeline.ΦA
  rw [scopedRest0_eq]
  iintro ⟨⟨⟨%s0, S0⟩, ⟨%s1, S1⟩, ⟨%s2, S2⟩⟩, Hg⟩
  isplitl [S0 S1 S2]
  · isplitl [S0]; · iexists s0; iexact S0
    isplitl [S1]
    · iexists s1; isplitr; · ipureintro; exact fun h => absurd rfl h
      iexact S1
    iexists s2; isplitr; · ipureintro; exact fun h => absurd rfl h
    iexact S2
  iexact Hg

theorem v_hout (c : Dev nD) : (vdats m Y 0 c).Φ (Fin.last cfg0.N) ⊢ Pipeline.ΦA spec0 c := by
  rw [show (vdats m Y 0 c).Φ (Fin.last cfg0.N) = PhiV c cfg0.N from rfl]
  unfold PhiV Pipeline.ΦA
  rw [scopedRest0_eq]
  iintro ⟨⟨⟨%s0, S0⟩, ⟨%s1, %p1, S1⟩, ⟨%s2, %p2, S2⟩⟩, Hg⟩
  isplitl [S0 S1 S2]
  · isplitl [S0]; · iexists s0; iexact S0
    isplitl [S1]; · iexists s1; iexact S1
    iexists s2; iexact S2
  iexact Hg

set_option backward.isDefEq.respectTransparency.types false in
/-- The launch with the results named. -/
theorem v_run (ρ : Dev nD → PrngReg) (A : ∀ c, ArgsHold m c (Y c)) : θ_run defs (onTc (τ := τ) (main (F := Ideal))) (s₀ m ρ) (fun r => Pipeline.FramePost cfgs (vdats m Y) (0 : Fin 1) (V m) r) :=
  Pipeline.θ_run_frame_track cfgs (vdats m Y) (0 : Fin 1) launch0 defs₀ Variants.none m ρ main
    (hbody := fun c => (vbody_obligation A c).loose) (hshare := fun c => (vdats m Y 0 c).share_full fun _ => rfl)
    (howed := fun _ _ => rfl) (V := V m) (hmain := hmain m Variants.none) (hA := vA_eq m Y)
    (hin := v_hin) (hout := v_hout)

/-! ## The two results -/

/-- The first result: the outputs of all the chunks. -/
def outAll (X : Inputs) : S2x512x6144.Idx → EReal := fun y =>
  let h : Fin 48 := ⟨(y 2).val / 128, by have h : (y 2).val < 6144 := (y 2).isLt; omega⟩
  let n : Fin 8 := ⟨(y 1).val / 64, by have h : (y 1).val < 512 := (y 1).isLt; omega⟩
  (X.chunk (y 0) n).out h (X.state (y 0) h n.val) ⟨(y 1).val % 64, Nat.mod_lt _ (by decide)⟩ ⟨(y 2).val % 128, Nat.mod_lt _ (by decide)⟩

/-- The second: the states after the last chunk. -/
def stateAll (X : Inputs) : S2x48x96x128.Idx → EReal := fun y =>
  ((X.state (y 0) (y 1) 8 (y 2) (y 3) : ℝ) : EReal)

theorem arr_out (c : Dev nD) : (vdats m Y 0 c).arrAt 8 cfg0.N = outAll (Y c) := by
  refine (vdats m Y 0 c).arrAt_eq_of_covers 8 _ (by decide +kernel) fun t hf y => ?_
  blk_simp
  rw [vafter_8]
  unfold outAll Inputs.outBlock
  have h1 : (y 1).val < 64 := (y 1).isLt
  have h2 : (y 2).val < 6144 := (y 2).isLt
  have hy0 : (y 0).val < 1 := (y 0).isLt
  have E0 : ((win0_8.blk t).view.emb y 0 : Fin _) = bOf t := Fin.ext (by blk_simp [idx8]; simp [bOf])
  have E1 : ((win0_8.blk t).view.emb y 1 : Fin _).val = t.val % 8 * 64 + (y 1).val := by blk_simp [idx8]
  have E2 : ((win0_8.blk t).view.emb y 2 : Fin _).val = (y 2).val := by blk_simp [idx8]
  have key : ∀ (b : Fin 2) (n n' : Fin 8) (h h' : Fin 48) (r r' : Fin 64) (e e' : Fin 128), n = n' → h = h' → r = r' → e = e' →
      ((Y c).chunk b n).out h ((Y c).state b h n.val) r e = ((Y c).chunk b n').out h' ((Y c).state b h' n'.val) r' e' := by
    rintro b n _ h _ r _ e _ rfl rfl rfl rfl; rfl
  dsimp only
  rw [E0]
  exact key _ _ _ _ _ _ _ _ _
    (Fin.ext (Eq.trans (b := (t.val % 8 * 64 + (y 1).val) / 64) (by dsimp only [nOf]; omega) (congrArg (· / 64) E1.symm)))
    (Fin.ext (congrArg (· / 128) E2.symm))
    (Fin.ext (Eq.trans (b := (t.val % 8 * 64 + (y 1).val) % 64) (show (y 1).val = _ by omega) (congrArg (· % 64) E1.symm)))
    (Fin.ext (congrArg (· % 128) E2.symm))

theorem arr_state (c : Dev nD) : (vdats m Y 0 c).arrAt 9 cfg0.N = stateAll (Y c) := by
  refine (vdats m Y 0 c).arrAt_eq_of_covers 9 _ (by decide +kernel) fun t hf y => ?_
  have h7 : t.val % 8 = 7 := (flush0_9 t).1 hf
  blk_simp
  rw [vafter_9, h7]
  unfold stateAll Inputs.stateBlock
  have hy0 : (y 0).val < 1 := (y 0).isLt
  have E0 : ((win0_9.blk t).view.emb y 0 : Fin _) = bOf t := Fin.ext (by blk_simp [idx9]; simp [bOf])
  have E1 : ((win0_9.blk t).view.emb y 1 : Fin _) = y 1 := Fin.ext (by blk_simp [idx9])
  have E2 : ((win0_9.blk t).view.emb y 2 : Fin _) = y 2 := Fin.ext (by blk_simp [idx9])
  have E3 : ((win0_9.blk t).view.emb y 3 : Fin _) = y 3 := Fin.ext (by blk_simp [idx9])
  rw [E0, E1, E2, E3]

/-- Every run of the kernel on these arguments: its two results named, its arguments unchanged. -/
theorem v_final (ρ : Dev nD → PrngReg) (A : ∀ c, ArgsHold m c (Y c)) :
    θ_run defs (onTc (τ := τ) (main (F := Ideal))) ⟨m, fun _ => 0, ρ⟩ (fun r => ∀ c : Dev nD,
      r.2.mem ((c.tc : Thread nD τ).loc main_v2_0) = outAll (Y c)
      ∧ r.2.mem ((c.tc : Thread nD τ).loc main_v2_1) = stateAll (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h.out_eq c 8).trans (arr_out c), (h.out_eq c 9).trans (arr_state c),
      ((h c).2 main_arg0 (Pipeline.mem_restRefs_of main_arg0 (by decide) (by decide))).trans (V_main_arg0 m c),
      ((h.in_eq c 1 rfl).trans (vA_eq m Y c 1)).trans (V_main_arg1 m c),
      ((h c).2 main_arg2 (Pipeline.mem_restRefs_of main_arg2 (by decide) (by decide))).trans (V_main_arg2 m c),
      ((h.in_eq c 3 rfl).trans (vA_eq m Y c 3)).trans (V_main_arg3 m c),
      ((h.in_eq c 4 rfl).trans (vA_eq m Y c 4)).trans (V_main_arg4 m c),
      ((h.in_eq c 5 rfl).trans (vA_eq m Y c 5)).trans (V_main_arg5 m c),
      ((h.in_eq c 6 rfl).trans (vA_eq m Y c 6)).trans (V_main_arg6 m c),
      ((h.in_eq c 7 rfl).trans (vA_eq m Y c 7)).trans (V_main_arg7 m c)⟩)
    (v_run ρ A)

end Cert.KernelIdeal.Hand
-- ==== Proof.Finite.lean ====
module

public import proofs.«01_k».proof.Defs
public import proofs.«01_k».proof.Proof.KernelIdealValue
public import Idealize.ShloMosaic.Lib.KernelVsHost

/-! The precondition of the value claim says that no argument holds an infinity.  This module reads it: such arguments
are arrays of real numbers, and those real numbers are the `Inputs` the value theorems speak of. -/

@[expose] public section

open Idealize Idealize.ShloMosaic
open Cert.KernelIdeal.Hand (Inputs)

namespace Cert.Finite

theorem facts : Cert.Pre_finite.Facts where
  bcast_S_S2x512x48x96 := by decide
  bcast_S_S2x512x48 := by decide
  bitsLt_bf16_f32 := by decide
  bcast_S_S2x512x48x128 := by decide
  bcast_S_S2x48x96x128 := by decide

/-- A value whose size compares below +∞ is the real number `toReal` reads from it. -/
theorem real_of_lt {x : Ideal .f32}
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  have h' : IntOp.xori (BitVec.ofBool (decide ((x : EReal) = ⊤ ∨ (x : EReal) = ⊥))) 1#1 = 1#1 := h
  have hn : ¬ ((x : EReal) = ⊤ ∨ (x : EReal) = ⊥) := by
    intro hx
    rw [decide_eq_true hx] at h'
    exact absurd h' (by decide)
  push Not at hn
  exact (EReal.coe_toReal hn.1 hn.2).symm

section
open Cert.KernelIdeal

variable (m : (ℓ : Loc nD τ sig) → Buf (Elt Ideal) ℓ)

/-- The real numbers the arguments of core `c` hold. -/
noncomputable def inputs (c : Dev nD) : Inputs where
  q b t h d := EReal.toReal (m ((c.tc : Thread nD τ).loc main_arg0) (ix4 b t h d))
  qs b t h := EReal.toReal (m ((c.tc : Thread nD τ).loc main_arg1) (ix3 b t h))
  k b t h d := EReal.toReal (m ((c.tc : Thread nD τ).loc main_arg2) (ix4 b t h d))
  ks b t h := EReal.toReal (m ((c.tc : Thread nD τ).loc main_arg3) (ix3 b t h))
  v b t h e := EReal.toReal (m ((c.tc : Thread nD τ).loc main_arg4) (ix4 b t h e))
  g b t h d := EReal.toReal (m ((c.tc : Thread nD τ).loc main_arg5) (ix4 b t h d))
  bt b t h := EReal.toReal (m ((c.tc : Thread nD τ).loc main_arg6) (ix3 b t h))
  h0 b h d e := EReal.toReal (m ((c.tc : Thread nD τ).loc main_arg7) (ix4 b h d e))

variable {m}

/-- Under the precondition every argument is the array of those real numbers. -/
theorem holds (hp : Cert.Pre_KernelIdeal_finite (hPre_finite := facts) m) (c : Dev nD) :
    Cert.KernelIdeal.Hand.ArgsHold m c (inputs m c) := by
  obtain ⟨h0, h1, h2, h3, h4, h5, h6, h7⟩ := hp c
  exact
    { q := fun b t h d => real_of_lt (congrFun h0 (ix4 b t h d))
      qs := fun b t h => real_of_lt (congrFun h1 (ix3 b t h))
      k := fun b t h d => real_of_lt (congrFun h2 (ix4 b t h d))
      ks := fun b t h => real_of_lt (congrFun h3 (ix3 b t h))
      v := fun b t h e => real_of_lt (congrFun h4 (ix4 b t h e))
      g := fun b t h d => real_of_lt (congrFun h5 (ix4 b t h d))
      bt := fun b t h => real_of_lt (congrFun h6 (ix3 b t h))
      h0 := fun b h d e => real_of_lt (congrFun h7 (ix4 b h d e)) }

end

end Cert.Finite
-- ==== Proof.RefMath.lean ====
module

public import proofs.«01_k».proof.Proof.HeadMath

@[expose] public section

noncomputable section

namespace Cert.KernelIdeal.Hand

/-! The real algebra of the reference: a unit lower-triangular system solved row by row, and the kernel's form of it. -/

/-- One row of the substitution: row `n` of the inverse from the rows above it. -/
def rowStep (A : Matrix (Fin 64) (Fin 64) ℝ) (n : ℕ) (T : Matrix (Fin 64) (Fin 64) ℝ) : Matrix (Fin 64) (Fin 64) ℝ :=
  fun i j => if i.val = n then (1 : Matrix (Fin 64) (Fin 64) ℝ) i j - (A * T) i j else T i j

/-- The inverse after rows `1` to `n`. -/
def rows (A : Matrix (Fin 64) (Fin 64) ℝ) : ℕ → Matrix (Fin 64) (Fin 64) ℝ
  | 0 => 1
  | n + 1 => rowStep A (n + 1) (rows A n)

variable {A : Matrix (Fin 64) (Fin 64) ℝ}

theorem mul_congr (hA : ∀ i j, i ≤ j → A i j = 0) {T T' : Matrix (Fin 64) (Fin 64) ℝ} (i j : Fin 64)
    (h : ∀ k, k < i → T k j = T' k j) : (A * T) i j = (A * T') i j := by
  rw [Matrix.mul_apply, Matrix.mul_apply]
  refine Finset.sum_congr rfl fun k _ => ?_
  by_cases hk : k < i
  · rw [h k hk]
  · rw [hA i k (not_lt.1 hk), zero_mul, zero_mul]

theorem rows_spec (hA : ∀ i j, i ≤ j → A i j = 0) (n : ℕ) : ∀ i j : Fin 64,
    (i.val ≤ n → rows A n i j = (1 : Matrix (Fin 64) (Fin 64) ℝ) i j - (A * rows A n) i j) ∧ (n < i.val → rows A n i j = (1 : Matrix (Fin 64) (Fin 64) ℝ) i j) := by
  induction n with
  | zero =>
    refine fun i j => ⟨fun h => ?_, fun _ => rfl⟩
    have : (A * rows A 0) i j = 0 := by
      rw [Matrix.mul_apply]
      refine Finset.sum_eq_zero fun k _ => ?_
      rw [hA i k (Fin.le_def.2 (by omega)), zero_mul]
    rw [this, sub_zero]; rfl
  | succ n ih =>
    have hne : ∀ i j : Fin 64, i.val ≠ n + 1 → rows A (n + 1) i j = rows A n i j := fun i j h => if_neg h
    have hmul : ∀ i j : Fin 64, i.val ≤ n + 1 → (A * rows A (n + 1)) i j = (A * rows A n) i j := fun i j h =>
      mul_congr hA i j fun k hk => hne k j (by have := Fin.lt_def.1 hk; omega)
    refine fun i j => ⟨fun h => ?_, fun h => ?_⟩
    · rw [hmul i j h]
      by_cases he : i.val = n + 1
      · exact if_pos he
      · rw [hne i j he]; exact (ih i j).1 (by omega)
    · rw [hne i j (by omega)]; exact (ih i j).2 (by omega)

/-- After all the rows the substitution has inverted the system. -/
theorem rows_eq (hA : ∀ i j, i ≤ j → A i j = 0) : rows A 63 = inverseR A := by
  have h : (1 + A) * rows A 63 = 1 := by
    rw [add_mul, one_mul]
    ext i j
    have := (rows_spec hA 63 i j).1 (by omega)
    rw [Matrix.add_apply]; linarith
  calc rows A 63 = inverseR A * (1 + A) * rows A 63 := by rw [inverseR_mul A hA, one_mul]
    _ = inverseR A := by rw [mul_assoc, h, mul_one]

/-- The reference's system, its scaled query scores, and its four scaled operands. -/
def sysR (G K : Matrix (Fin 64) (Fin 96) ℝ) (ks bt : Fin 64 → ℝ) : Matrix (Fin 64) (Fin 64) ℝ :=
  fun i j => if j < i then (bt i * ks i) * ks j * (grownR G K * (shrunkR G K).transpose) i j else 0
def scoreR (G K Q : Matrix (Fin 64) (Fin 96) ℝ) (qs ks : Fin 64 → ℝ) : Matrix (Fin 64) (Fin 64) ℝ :=
  fun i j => if j ≤ i then qs i * ks j * (grownR G Q * (shrunkR G K).transpose) i j else 0
def wR (G K : Matrix (Fin 64) (Fin 96) ℝ) (ks bt : Fin 64 → ℝ) : Matrix (Fin 64) (Fin 96) ℝ :=
  rows (sysR G K ks bt) 63 * Matrix.of (fun i d => bt i * ks i * grownR G K i d)
def utR (G K : Matrix (Fin 64) (Fin 96) ℝ) (ks bt : Fin 64 → ℝ) (V : Matrix (Fin 64) (Fin 128) ℝ) : Matrix (Fin 64) (Fin 128) ℝ :=
  rows (sysR G K ks bt) 63 * Matrix.of (fun i e => bt i * V i e)
def qinR (G Q : Matrix (Fin 64) (Fin 96) ℝ) (qs : Fin 64 → ℝ) : Matrix (Fin 64) (Fin 96) ℝ := fun i d => qs i * grownR G Q i d
def koutR (G K : Matrix (Fin 64) (Fin 96) ℝ) (ks : Fin 64 → ℝ) : Matrix (Fin 64) (Fin 96) ℝ := fun i d => ks i * leftR G K i d

/-- The reference's corrections of one chunk from the state before it, its output and the state after it. -/
def uR (G K : Matrix (Fin 64) (Fin 96) ℝ) (ks bt : Fin 64 → ℝ) (V : Matrix (Fin 64) (Fin 128) ℝ) (S : Matrix (Fin 96) (Fin 128) ℝ) : Matrix (Fin 64) (Fin 128) ℝ :=
  utR G K ks bt V - wR G K ks bt * S
def refOutR (G K Q : Matrix (Fin 64) (Fin 96) ℝ) (qs ks bt : Fin 64 → ℝ) (V : Matrix (Fin 64) (Fin 128) ℝ) (S : Matrix (Fin 96) (Fin 128) ℝ) : Matrix (Fin 64) (Fin 128) ℝ :=
  qinR G Q qs * S + scoreR G K Q qs ks * uR G K ks bt V S
def refNextR (G K : Matrix (Fin 64) (Fin 96) ℝ) (ks bt : Fin 64 → ℝ) (V : Matrix (Fin 64) (Fin 128) ℝ) (S : Matrix (Fin 96) (Fin 128) ℝ) : Matrix (Fin 96) (Fin 128) ℝ :=
  fun d e => Real.exp (G 63 d) * S d e + ((koutR G K ks).transpose * uR G K ks bt V S) d e

variable (G K Q : Matrix (Fin 64) (Fin 96) ℝ) (qs ks bt : Fin 64 → ℝ) (V : Matrix (Fin 64) (Fin 128) ℝ) (S : Matrix (Fin 96) (Fin 128) ℝ)

theorem sysR_upper (i j : Fin 64) (h : i ≤ j) : sysR G K ks bt i j = 0 := if_neg (not_lt.2 h)
theorem keyR_upper (c : Fin 64 → ℝ) (i j : Fin 64) (h : i ≤ j) : keyR G K c i j = 0 := if_neg (not_lt.2 h)

/-- The kernel scales the rows of the reference's system by the key scales. -/
theorem inverse_scaled : inverseR (keyR G K fun i => ks i * (ks i * bt i)) * Matrix.diagonal ks = Matrix.diagonal ks * rows (sysR G K ks bt) 63 := by
  set T := rows (sysR G K ks bt) 63 with hT
  have h1 : (1 + sysR G K ks bt) * T = 1 := by
    rw [hT, rows_eq (sysR_upper G K ks bt)]
    exact mul_eq_one_comm.1 (inverseR_mul _ (sysR_upper G K ks bt))
  have h2 : (1 + keyR G K fun i => ks i * (ks i * bt i)) * Matrix.diagonal ks = Matrix.diagonal ks * (1 + sysR G K ks bt) := by
    rw [add_mul, mul_add, one_mul, mul_one]
    congr 1
    ext i j
    rw [Matrix.mul_diagonal, Matrix.diagonal_mul]
    unfold keyR sysR
    split_ifs
    · ring
    · simp
  calc _ = inverseR (keyR G K fun i => ks i * (ks i * bt i)) * (Matrix.diagonal ks * ((1 + sysR G K ks bt) * T)) := by rw [h1, mul_one]
    _ = inverseR (keyR G K fun i => ks i * (ks i * bt i)) * (1 + keyR G K fun i => ks i * (ks i * bt i)) * (Matrix.diagonal ks * T) := by
        rw [← mul_assoc (Matrix.diagonal ks), ← h2]; simp only [mul_assoc]
    _ = _ := by rw [inverseR_mul _ (keyR_upper G K _), one_mul]

/-- So its corrections are the reference's, scaled. -/
theorem delta_eq : deltaR G K (fun i => ks i * bt i) (fun i => ks i * (ks i * bt i)) V S = Matrix.diagonal ks * uR G K ks bt V S := by
  have e : (Matrix.of fun i e => (ks i * bt i) * V i e - (ks i * (ks i * bt i)) * (grownR G K * S) i e)
      = Matrix.diagonal ks * (Matrix.of (fun i e => bt i * V i e) - Matrix.of (fun i d => bt i * ks i * grownR G K i d) * S) := by
    ext i e
    rw [Matrix.diagonal_mul, Matrix.sub_apply, Matrix.of_apply]
    have : (Matrix.of (fun i d => bt i * ks i * grownR G K i d) * S) i e = bt i * ks i * (grownR G K * S) i e := by
      rw [Matrix.mul_apply, Matrix.mul_apply, Finset.mul_sum]
      exact Finset.sum_congr rfl fun d _ => by rw [Matrix.of_apply]; ring
    rw [this, Matrix.of_apply]; ring
  unfold deltaR
  rw [e, ← Matrix.mul_assoc, inverse_scaled]
  unfold uR utR wR
  rw [Matrix.mul_assoc, Matrix.mul_sub, Matrix.mul_assoc]

theorem headOut_eq (sc : EReal) (i : Fin 64) (e : Fin 128) :
    headOutR sc G K Q (fun i => ks i * bt i) (fun i => ks i * (ks i * bt i)) qs V S i e = sc * ((refOutR G K Q qs ks bt V S i e : ℝ) : EReal) := by
  unfold headOutR refOutR
  rw [delta_eq]
  congr 2
  rw [Matrix.add_apply, mul_add]
  congr 1
  · rw [Matrix.mul_apply, Matrix.mul_apply, Finset.mul_sum]
    exact Finset.sum_congr rfl fun d _ => by unfold qinR; ring
  · rw [← Matrix.mul_assoc, Matrix.mul_apply, Matrix.mul_apply, Finset.mul_sum]
    refine Finset.sum_congr rfl fun j _ => ?_
    rw [Matrix.mul_diagonal]
    unfold queryR scoreR
    split_ifs
    · ring
    · simp

theorem headState_eq : headStateR G K (fun i => ks i * bt i) (fun i => ks i * (ks i * bt i)) V S = refNextR G K ks bt V S := by
  unfold headStateR refNextR
  rw [delta_eq]
  funext d e
  congr 1
  rw [← Matrix.mul_assoc]
  refine congrArg (fun M : Matrix (Fin 96) (Fin 64) ℝ => (M * uR G K ks bt V S) d e) ?_
  ext d j
  rw [Matrix.mul_diagonal, Matrix.transpose_apply, Matrix.transpose_apply]
  unfold koutR; ring

end Cert.KernelIdeal.Hand
-- ==== Proof.RefParts.lean ====
module

public import proofs.«01_k».proof.Proof.RefMath
public import proofs.«01_k».proof.Proof.Gen.ReferenceIdeal.Frame
public import Idealize.ShloMosaic.Lib.Pipeline.Value
public import Idealize.ShloMosaic.Lib.Pointwise

@[expose] public section

noncomputable section

namespace Cert.ReferenceIdeal.Hand

open Cert.ReferenceIdeal Cert.ReferenceIdeal.Gen Idealize.ShloMosaic Idealize.ShloMosaic.TcCoe
open Cert.KernelIdeal.Hand (coe_sum cmp_eq cmp_gt cmp_ge sel_one sel_zero exp_real grownR shrunkR leftR rowStep rows sysR scoreR wR utR qinR koutR uR refOutR refNextR)

/-! The reference's values before its loop, over the reals. Its 768 pairs are the chunks of the 96 heads. -/

/-- `x` holds a real matrix for each leading index. -/
def Is {N m n : ℕ} (x : (⟨3, ![N, m, n]⟩ : Shape).Idx → EReal) (M : Fin N → Matrix (Fin m) (Fin n) ℝ) : Prop :=
  ∀ j r c, x (ix3 j r c) = ((M j r c : ℝ) : EReal)

/-- `x` holds a real vector for each leading index. -/
def IsV {N m : ℕ} (x : (⟨2, ![N, m]⟩ : Shape).Idx → EReal) (M : Fin N → Fin m → ℝ) : Prop :=
  ∀ j r, x (ix2 j r) = ((M j r : ℝ) : EReal)

/-- Batch, time and head of row `r` of pair `j`. -/
abbrev jb (j : Fin 768) : Fin 2 := ⟨j.val / 48 % 2, Nat.mod_lt _ (by decide)⟩
abbrev jt (j : Fin 768) (r : Fin 64) : Fin 512 := ⟨j.val / 96 * 64 + r.val, by omega⟩
abbrev jh (j : Fin 768) : Fin 48 := ⟨j.val % 48, Nat.mod_lt _ (by decide)⟩

theorem one_bits : (Scalar.ofBits .f32 0x3F800000#32 : Ideal .f32) = ((1 : ℝ) : EReal) := by
  show _ = (1 : EReal)
  simp

theorem zero_bits : (Scalar.ofBits .f32 0x00000000#32 : Ideal .f32) = ((0 : ℝ) : EReal) := by
  show _ = (0 : EReal)
  simp

theorem cmp64_eq (i j : Fin 64) : IntOp.cmpi .eq (BitVec.ofNat 32 i.val) (BitVec.ofNat 32 j.val) = if i = j then 1#1 else 0#1 := by
  have e := cmp_eq ⟨i.val, lt_trans i.isLt (by decide)⟩ ⟨j.val, lt_trans j.isLt (by decide)⟩
  simpa only [Fin.mk.injEq, ← Fin.ext_iff] using e
theorem cmp64_gt (i j : Fin 64) : IntOp.cmpi .sgt (BitVec.ofNat 32 i.val) (BitVec.ofNat 32 j.val) = if j < i then 1#1 else 0#1 := by
  have e := cmp_gt ⟨i.val, lt_trans i.isLt (by decide)⟩ ⟨j.val, lt_trans j.isLt (by decide)⟩
  simpa only [Fin.mk_lt_mk, ← Fin.lt_def] using e
theorem cmp64_ge (i j : Fin 64) : IntOp.cmpi .sge (BitVec.ofNat 32 i.val) (BitVec.ofNat 32 j.val) = if j ≤ i then 1#1 else 0#1 := by
  have e := cmp_ge ⟨i.val, lt_trans i.isLt (by decide)⟩ ⟨j.val, lt_trans j.isLt (by decide)⟩
  simpa only [Fin.mk_le_mk, ← Fin.le_def] using e

theorem sel_if {p : Prop} [Decidable p] (a b : ℝ) : Scalar.select (if p then 1#1 else 0#1) (a : EReal) (b : EReal) = ((if p then a else b : ℝ) : EReal) := by
  by_cases h : p
  · rw [if_pos h, if_pos h, sel_one]
  · rw [if_neg h, if_neg h, sel_zero]

/-! ## The inputs, cut into chunks -/

theorem q_at (x : Vec Ideal S2x512x48x96 .fp8e4m3) (M : Fin 768 → Matrix (Fin 64) (Fin 96) ℝ) (h : ∀ j r d, x (ix4 (jb j) (jt j r) (jh j) d) = ((M j r d : ℝ) : EReal)) :
    Is (k0_pay3 (F := Ideal) x) M := by
  intro j r d
  unfold k0_pay3
  pointwise
  exact h j r d

theorem k_at (x : Vec Ideal S2x512x48x96 .fp8e4m3) (M : Fin 768 → Matrix (Fin 64) (Fin 96) ℝ) (h : ∀ j r d, x (ix4 (jb j) (jt j r) (jh j) d) = ((M j r d : ℝ) : EReal)) :
    Is (k0_pay4 (F := Ideal) x) M := by
  intro j r d
  unfold k0_pay4
  pointwise
  exact h j r d

theorem qs_at (x : Vec Ideal S2x512x48 .f32) (M : Fin 768 → Fin 64 → ℝ) (h : ∀ j r, x (ix3 (jb j) (jt j r) (jh j)) = ((M j r : ℝ) : EReal)) :
    IsV (k0_pay5 (F := Ideal) x) M := by
  intro j r
  unfold k0_pay5
  pointwise
  exact h j r

theorem ks_at (x : Vec Ideal S2x512x48 .f32) (M : Fin 768 → Fin 64 → ℝ) (h : ∀ j r, x (ix3 (jb j) (jt j r) (jh j)) = ((M j r : ℝ) : EReal)) :
    IsV (k0_pay6 (F := Ideal) x) M := by
  intro j r
  unfold k0_pay6
  pointwise
  exact h j r

theorem bt_at (x : Vec Ideal S2x512x48 .f32) (M : Fin 768 → Fin 64 → ℝ) (h : ∀ j r, x (ix3 (jb j) (jt j r) (jh j)) = ((M j r : ℝ) : EReal)) :
    IsV (k0_pay7 (F := Ideal) x) M := by
  intro j r
  unfold k0_pay7
  pointwise
  exact h j r

theorem v_at (x : Vec Ideal S2x512x48x128 .bf16) (M : Fin 768 → Matrix (Fin 64) (Fin 128) ℝ) (h : ∀ j r d, x (ix4 (jb j) (jt j r) (jh j) d) = ((M j r d : ℝ) : EReal)) :
    Is (k0_pay8 (F := Ideal) x) M := by
  intro j r d
  unfold k0_pay8
  pointwise
  exact h j r d

/-! ## The cumulative log decays and their exponentials -/

theorem ones_at (i j : Fin 64) : k0_pay11 (F := Ideal) (ix3 0 i j) = ((if j ≤ i then 1 else 0 : ℝ) : EReal) := by
  unfold k0_pay11 k0_pay10
  pointwise
  rw [cmp64_ge, ← sel_if]
  simp

/-- The running sum of the log decays `g` inside a chunk. -/
def sums (g : Matrix (Fin 64) (Fin 96) ℝ) : Matrix (Fin 64) (Fin 96) ℝ := fun i d => ∑ s, if s.val ≤ i.val then g s d else 0

variable {x5 : Vec Ideal S2x512x48x96 .f32} {g q k : Fin 768 → Matrix (Fin 64) (Fin 96) ℝ}
variable {v5 v11 : FVec Ideal S768x64x96 .bf16}

theorem sums_at (hg : ∀ j r d, x5 (ix4 (jb j) (jt j r) (jh j) d) = ((g j r d : ℝ) : EReal)) : Is (k0_pay12 k0_pay11 x5) fun j => sums (g j) := by
  intro j r d
  unfold k0_pay12
  pointwise
  simp only [ones_at]
  unfold sums
  rw [coe_sum]
  refine Finset.sum_congr rfl fun s _ => ?_
  erw [hg j s d]
  rw [← EReal.coe_mul]
  simp only [← Fin.le_def]
  split_ifs <;> simp

variable (hg : ∀ j r d, x5 (ix4 (jb j) (jt j r) (jh j) d) = ((g j r d : ℝ) : EReal))
include hg

theorem last_at (j : Fin 768) (d : Fin 96) : k0_pay13 k0_pay11 x5 (ix3 j 0 d) = ((sums (g j) 63 d : ℝ) : EReal) := by
  unfold k0_pay13
  pointwise
  exact sums_at hg j 63 d

theorem qpos_at (h5 : Is v5 q) : Is (k0_pay15 v5 k0_pay11 x5) fun j => grownR (sums (g j)) (q j) := by
  intro j r d
  unfold k0_pay15 k0_pay14
  pointwise
  rw [h5 j r d, sums_at hg j r d, exp_real]
  rfl

theorem kpos_at (h11 : Is v11 k) : Is (k0_pay16 v11 k0_pay11 x5) fun j => grownR (sums (g j)) (k j) := by
  intro j r d
  unfold k0_pay16 k0_pay14
  pointwise
  rw [h11 j r d, sums_at hg j r d, exp_real]
  rfl

theorem kneg_at (h11 : Is v11 k) : Is (k0_pay17 v11 k0_pay11 x5) fun j => shrunkR (sums (g j)) (k j) := by
  intro j r d
  unfold k0_pay17
  pointwise
  rw [h11 j r d, sums_at hg j r d]
  rfl

theorem kdec_at (h11 : Is v11 k) : Is (k0_pay18 v11 k0_pay11 x5) fun j => leftR (sums (g j)) (k j) := by
  intro j r d
  unfold k0_pay18
  pointwise
  rw [h11 j r d, sums_at hg j r d]
  erw [last_at hg j d]
  rfl

/-! ## The system and the scores -/

variable {v15 v19 v23 : FVec Ideal S768x64 .f32} {qs ks bt : Fin 768 → Fin 64 → ℝ}

theorem sys_at (h11 : Is v11 k) (h19 : IsV v19 ks) (h23 : IsV v23 bt) :
    Is (k0_pay20 v11 v19 v23 k0_pay9 k0_pay11 x5) fun j => sysR (sums (g j)) (k j) (ks j) (bt j) := by
  intro j r c
  unfold k0_pay20 k0_pay19 k0_pay9
  pointwise
  simp only [kpos_at hg h11 j, kneg_at hg h11 j, h19 j, h23 j]
  rw [cmp64_gt]
  unfold sysR
  simp only [← EReal.coe_mul, ← coe_sum]
  erw [sel_if]
  rfl

theorem score_at (h5 : Is v5 q) (h11 : Is v11 k) (h15 : IsV v15 qs) (h19 : IsV v19 ks) :
    Is (k0_pay21 v5 v11 v15 v19 k0_pay10 k0_pay11 x5) fun j => scoreR (sums (g j)) (k j) (q j) (qs j) (ks j) := by
  intro j r c
  unfold k0_pay21 k0_pay10
  pointwise
  simp only [qpos_at hg h5 j, kneg_at hg h11 j, h15 j, h19 j]
  rw [cmp64_ge]
  unfold scoreR
  simp only [← EReal.coe_mul, ← coe_sum]
  erw [sel_if]
  rfl
omit hg

/-! ## The substitution -/

/-- The row number. -/
abbrev rowNo : IVec S1x64x64 32 := iota .tc S1x64x64 32 [1] iota_S1x64x64_d1_w32

theorem eye_at : Is (k0_pay23 (F := Ideal) (k0_pay22 rowNo (iota .tc S1x64x64 32 [2] iota_S1x64x64_d2_w32))) fun _ => 1 := by
  intro j r c
  unfold k0_pay23 k0_pay22 rowNo
  pointwise
  rw [cmp64_eq, Matrix.one_apply, ← sel_if]
  simp

/-- One row of the substitution, as the reference writes it. -/
theorem row_at {A T : Fin 768 → Matrix (Fin 64) (Fin 64) ℝ} {E a t : FVec Ideal S768x64x64 .f32} (hE : Is E fun _ => 1) (ha : Is a A)
    (n : Fin 64) (b : BitVec 32) (hb : b = BitVec.ofNat 32 n.val) (ht : Is t T) :
    Is (select (broadcastTo S768x64x64 (shapeCast S1x64x64 (cmpi .eq rowNo (broadcast S1x64x64 b)) shapeCasts_S1x64x64_S1x64x64) broadcasts_S1x64x64_S768x64x64)
      (subf E (matmul dot_S768x64x64_S768x64x64_S768x64x64_2_1_1_2_0_0 (some .fp32) a t (constant S768x64x64 .f32 0x00000000#32))) t)
      fun j => rowStep (A j) n.val (T j) := by
  intro j r c
  subst hb
  unfold rowNo
  pointwise
  rw [cmp64_eq, hE j r c]
  simp only [ha j, ht j]
  simp only [← EReal.coe_mul, ← coe_sum, ← EReal.coe_sub]
  erw [sel_if]
  unfold rowStep
  simp only [Fin.ext_iff, Matrix.mul_apply]

variable {A : Fin 768 → Matrix (Fin 64) (Fin 64) ℝ} {E a t : FVec Ideal S768x64x64 .f32}

theorem next_at {m : ℕ} {b : BitVec 32} (hE : Is E fun _ => 1) (ha : Is a A) (hm : m + 1 < 64) (hb : b = BitVec.ofNat 32 (m + 1)) (ht : Is t fun j => rows (A j) m) :
    Is (select (broadcastTo S768x64x64 (shapeCast S1x64x64 (cmpi .eq rowNo (broadcast S1x64x64 b)) shapeCasts_S1x64x64_S1x64x64) broadcasts_S1x64x64_S768x64x64)
      (subf E (matmul dot_S768x64x64_S768x64x64_S768x64x64_2_1_1_2_0_0 (some .fp32) a t (constant S768x64x64 .f32 0x00000000#32))) t)
      fun j => rows (A j) (m + 1) :=
  row_at hE ha ⟨m + 1, hm⟩ b hb ht

/-! The sixty-three rows, as they are cut into parts. -/

theorem rows_6 {e : FVec Ideal S1x64x64 .f32} (hE : Is (k0_pay23 e) fun _ => 1) (ha : Is a A) : Is (k0_pay24 rowNo a e) fun j => rows (A j) 6 := by
  unfold k0_pay24
  iterate 6 refine next_at hE ha (by decide) rfl ?_
  exact hE

variable (hE : Is E fun _ => 1) (ha : Is a A)
include hE ha

theorem rows_13 (ht : Is t fun j => rows (A j) 6) :
    Is (k0_pay26 rowNo a E t (k0_pay25 rowNo) (constant S768x64x64 .f32 0x00000000#32)) fun j => rows (A j) 13 := by
  unfold k0_pay26 k0_pay25
  iterate 7 refine next_at hE ha (by decide) rfl ?_
  exact ht

theorem rows_19 (ht : Is t fun j => rows (A j) 13) : Is (k0_pay27 rowNo a E t 14#32) fun j => rows (A j) 19 := by
  unfold k0_pay27
  iterate 6 refine next_at hE ha (by decide) rfl ?_
  exact ht

theorem rows_26 (ht : Is t fun j => rows (A j) 13) :
    Is (k0_pay30 rowNo a E (k0_pay27 rowNo a E t 14#32) (k0_pay28 rowNo a E t 14#32) (k0_pay29 rowNo)) fun j => rows (A j) 26 := by
  unfold k0_pay30 k0_pay28 k0_pay29
  iterate 7 refine next_at hE ha (by decide) rfl ?_
  exact rows_19 hE ha ht

theorem rows_33 (ht : Is t fun j => rows (A j) 26) :
    Is (k0_pay32 rowNo a E t (k0_pay31 rowNo) (constant S768x64x64 .f32 0x00000000#32)) fun j => rows (A j) 33 := by
  unfold k0_pay32 k0_pay31
  iterate 7 refine next_at hE ha (by decide) rfl ?_
  exact ht

theorem rows_39 (ht : Is t fun j => rows (A j) 33) : Is (k0_pay33 rowNo a E t 34#32) fun j => rows (A j) 39 := by
  unfold k0_pay33
  iterate 6 refine next_at hE ha (by decide) rfl ?_
  exact ht

theorem rows_46 (ht : Is t fun j => rows (A j) 33) :
    Is (k0_pay36 rowNo a E (k0_pay33 rowNo a E t 34#32) (k0_pay34 rowNo a E t 34#32) (k0_pay35 rowNo)) fun j => rows (A j) 46 := by
  unfold k0_pay36 k0_pay34 k0_pay35
  iterate 7 refine next_at hE ha (by decide) rfl ?_
  exact rows_39 hE ha ht

theorem rows_53 (ht : Is t fun j => rows (A j) 46) :
    Is (k0_pay38 rowNo a E t (k0_pay37 rowNo) (constant S768x64x64 .f32 0x00000000#32)) fun j => rows (A j) 53 := by
  unfold k0_pay38 k0_pay37
  iterate 7 refine next_at hE ha (by decide) rfl ?_
  exact ht

theorem rows_59 (ht : Is t fun j => rows (A j) 53) : Is (k0_pay39 rowNo a E t 54#32) fun j => rows (A j) 59 := by
  unfold k0_pay39
  iterate 6 refine next_at hE ha (by decide) rfl ?_
  exact ht

theorem rows_63 (ht : Is t fun j => rows (A j) 53) :
    Is (k0_pay42 rowNo a E (k0_pay39 rowNo a E t 54#32) (k0_pay40 rowNo a E t 54#32) (k0_pay41 rowNo)) fun j => rows (A j) 63 := by
  unfold k0_pay42 k0_pay40 k0_pay41
  iterate 4 refine next_at hE ha (by decide) rfl ?_
  exact rows_59 hE ha ht
omit hE ha

/-! ## What the loop reads -/

variable {v28 : FVec Ideal S768x64x128 .f32} {V : Fin 768 → Matrix (Fin 64) (Fin 128) ℝ}
variable {r1 r2 : FVec Ideal S768x64x64 .f32} {r3 : IVec S1x64x64 1}

theorem w_at {v47 : FVec Ideal S768x64x96 .bf16} {T : Fin 768 → Matrix (Fin 64) (Fin 64) ℝ} {P : Fin 768 → Matrix (Fin 64) (Fin 96) ℝ}
    (hT : Is (k0_pay42 rowNo a E r1 r2 r3) T) (h47 : Is v47 P) (h19 : IsV v19 ks) (h23 : IsV v23 bt) :
    Is (k0_pay43 rowNo v47 (k0_pay19 v19 v23) a E r1 r2 r3) fun j => T j * Matrix.of (fun i d => bt j i * ks j i * P j i d) := by
  intro j r d
  unfold k0_pay43 k0_pay19
  pointwise
  simp only [hT j, h47 j, h19 j, h23 j]
  simp only [← EReal.coe_mul, ← coe_sum]
  rfl

theorem ut_at {T : Fin 768 → Matrix (Fin 64) (Fin 64) ℝ}
    (hT : Is (k0_pay42 rowNo a E r1 r2 r3) T) (h28 : Is v28 V) (h23 : IsV v23 bt) :
    Is (k0_pay44 v23 v28 rowNo a E r1 r2 r3) fun j => T j * Matrix.of (fun i e => bt j i * V j i e) := by
  intro j r e
  unfold k0_pay44
  pointwise
  simp only [hT j, h28 j, h23 j]
  simp only [← EReal.coe_mul, ← coe_sum]
  rfl

theorem scaled_at {v46 : FVec Ideal S768x64x96 .bf16} {P : Fin 768 → Matrix (Fin 64) (Fin 96) ℝ} (h46 : Is v46 P) (h15 : IsV v15 qs) :
    Is (k0_pay45 v15 v46) fun j i d => qs j i * P j i d := by
  intro j r d
  unfold k0_pay45
  pointwise
  rw [h46 j r d, h15 j r, ← EReal.coe_mul]

theorem scaled_at' {v57 : FVec Ideal S768x64x96 .bf16} {P : Fin 768 → Matrix (Fin 64) (Fin 96) ℝ} (h57 : Is v57 P) (h19 : IsV v19 ks) :
    Is (k0_pay46 v19 v57) fun j i d => ks j i * P j i d := by
  intro j r d
  unfold k0_pay46
  pointwise
  rw [h57 j r d, h19 j r, ← EReal.coe_mul]

theorem decay_at {v43 : FVec Ideal S768x1x96 .f32} {G : Fin 768 → Matrix (Fin 1) (Fin 96) ℝ} (h : Is v43 G) :
    Is (k0_pay47 v43) fun j r d => Real.exp (G j r d) := by
  intro j r d
  unfold k0_pay47
  pointwise
  rw [h j r d, exp_real]

theorem h0_at (x : Vec Ideal S2x48x96x128 .f32) (S : Fin 96 → Matrix (Fin 96) (Fin 128) ℝ)
    (h : ∀ (j : Fin 96) d e, x (ix4 (⟨j.val / 48, by omega⟩ : Fin 2) (⟨j.val % 48, Nat.mod_lt _ (by decide)⟩ : Fin 48) d e) = ((S j d e : ℝ) : EReal)) :
    Is (k0_pay48 (F := Ideal) x) S := by
  intro j d e
  unfold k0_pay48
  pointwise
  exact h j d e

/-! ## One step of the loop -/

/-- Pair `j` of chunk `n`. -/
def blk (n : Fin 8) (j : Fin 96) : Fin 768 := ⟨96 * n.val + j.val, by omega⟩

/-- One chunk's part of an array over the pairs. -/
theorem slice_at {m p : ℕ} {x : FVec Ideal (⟨3, ![768, m, p]⟩ : Shape) .f32} {M : Fin 768 → Matrix (Fin m) (Fin p) ℝ} (hx : Is x M) (n : Fin 8) (o : ℕ) (ho : o = 96 * n.val)
    (h : (⟨3, ![768, m, p]⟩ : Shape).Slices ![o, 0, 0] (⟨3, ![96, m, p]⟩ : Shape)) : Is (extractStridedSlice (⟨3, ![96, m, p]⟩ : Shape) ![o, 0, 0] x h) fun j => M (blk n j) := by
  intro j r c
  subst ho
  pointwise
  refine (congrArg x (?_ : _ = ix3 (blk n j) r c)).trans (hx (blk n j) r c)
  funext a
  refine Fin.cases ?_ (fun a => Fin.cases ?_ (fun a => Fin.cases ?_ (fun a => a.elim0) a) a) a
  · rfl
  · exact Fin.ext (Nat.zero_add _)
  · exact Fin.ext (Nat.zero_add _)

variable {W Qi Ko : Fin 96 → Matrix (Fin 64) (Fin 96) ℝ} {U D : Fin 96 → Matrix (Fin 64) (Fin 128) ℝ} {Aq : Fin 96 → Matrix (Fin 64) (Fin 64) ℝ} {S : Fin 96 → Matrix (Fin 96) (Fin 128) ℝ}
variable {w qi ko : FVec Ideal S96x64x96 .f32} {ut u : FVec Ideal S96x64x128 .f32} {aq : FVec Ideal S96x64x64 .f32} {st : FVec Ideal S96x96x128 .f32}

theorem u_at (hu : Is ut U) (hw : Is w W) (hs : Is st S) :
    Is (subf ut (matmul dot_S96x64x96_S96x96x128_S96x64x128_2_1_1_2_0_0 (some .fp32) w st (constant S96x64x128 .f32 0x00000000#32))) fun j => U j - W j * S j := by
  intro j r e
  pointwise
  simp only [hu j, hw j, hs j]
  simp only [← EReal.coe_mul, ← coe_sum, ← EReal.coe_sub]
  rfl

theorem out_at (hq : Is qi Qi) (hs : Is st S) (ha : Is aq Aq) (hu : Is u D) (j : Fin 96) (r : Fin 64) (e : Fin 128) :
    mulf (broadcast S96x64x128 (Scalar.ofBits .f32 0x3DD105EC#32 : Ideal .f32)) (addf
      (matmul dot_S96x64x96_S96x96x128_S96x64x128_2_1_1_2_0_0 (some .fp32) qi st (constant S96x64x128 .f32 0x00000000#32))
      (matmul dot_S96x64x64_S96x64x128_S96x64x128_2_1_1_2_0_0 (some .fp32) aq u (constant S96x64x128 .f32 0x00000000#32))) (ix3 j r e)
      = (Scalar.ofBits .f32 0x3DD105EC#32 : Ideal .f32) * (((Qi j * S j + Aq j * D j) r e : ℝ) : EReal) := by
  pointwise
  simp only [hq j, hs j, ha j, hu j]
  simp only [← EReal.coe_mul, ← coe_sum, ← EReal.coe_add]
  rfl

theorem state_at {dk : FVec Ideal S96x1x96 .f32} {G : Fin 96 → Matrix (Fin 1) (Fin 96) ℝ} (hd : Is dk G) (hs : Is st S) (hk : Is ko Ko) (hu : Is u D) :
    Is (addf (mulf (broadcastTo S96x96x128 (transpose S96x96x1 [0, 2, 1] dk transposes_S96x1x96_p0_2_1_S96x96x1) broadcasts_S96x96x1_S96x96x128) st)
      (matmul dot_S96x64x96_S96x64x128_S96x96x128_1_1_2_2_0_0 (some .fp32) ko u (constant S96x96x128 .f32 0x00000000#32)))
      fun j d e => G j 0 d * S j d e + ((Ko j).transpose * D j) d e := by
  intro j d e
  pointwise
  simp only [hd j, hs j, hk j, hu j]
  simp only [← EReal.coe_mul, ← coe_sum, ← EReal.coe_add]
  rfl

end Cert.ReferenceIdeal.Hand
-- ==== Proof.RefRun.lean ====
module

public import proofs.«01_k».proof.Proof.RefParts
public import Idealize.ShloMosaic.Lib.Pipeline.ValueKit.Basic

@[expose] public section

noncomputable section

namespace Cert.ReferenceIdeal.Hand

open Cert.ReferenceIdeal Cert.ReferenceIdeal.Gen Idealize.ShloMosaic Idealize.ShloMosaic.TcCoe
open Cert.KernelIdeal.Hand (grownR shrunkR leftR rows sysR scoreR wR utR qinR koutR uR refOutR refNextR)

/-! The reference's two results, over the reals: the loop over the chunks, eight steps for the 96 heads together. -/

/-- The real inputs, cut into the 768 pairs of a chunk and a head. -/
structure Cut where
  q : Fin 768 → Matrix (Fin 64) (Fin 96) ℝ
  k : Fin 768 → Matrix (Fin 64) (Fin 96) ℝ
  g : Fin 768 → Matrix (Fin 64) (Fin 96) ℝ
  v : Fin 768 → Matrix (Fin 64) (Fin 128) ℝ
  qs : Fin 768 → Fin 64 → ℝ
  ks : Fin 768 → Fin 64 → ℝ
  bt : Fin 768 → Fin 64 → ℝ
  h0 : Fin 96 → Matrix (Fin 96) (Fin 128) ℝ

namespace Cut

variable (C : Cut)

/-- The corrections, the output and the next state of pair `j` from the state `S`. -/
def corr (j : Fin 768) (S : Matrix (Fin 96) (Fin 128) ℝ) := uR (sums (C.g j)) (C.k j) (C.ks j) (C.bt j) (C.v j) S
def out (j : Fin 768) (S : Matrix (Fin 96) (Fin 128) ℝ) := refOutR (sums (C.g j)) (C.k j) (C.q j) (C.qs j) (C.ks j) (C.bt j) (C.v j) S
def next (j : Fin 768) (S : Matrix (Fin 96) (Fin 128) ℝ) := refNextR (sums (C.g j)) (C.k j) (C.ks j) (C.bt j) (C.v j) S

/-- The states of the 96 heads before chunk `n`. -/
def state : ℕ → Fin 96 → Matrix (Fin 96) (Fin 128) ℝ
  | 0 => C.h0
  | n + 1 => fun j => C.next (blk ⟨n % 8, Nat.mod_lt _ (by decide)⟩ j) (state n j)

end Cut

/-- The six arrays the loop reads hold what the cut inputs give. -/
structure Parts (C : Cut) (w : FVec Ideal S768x64x96 .f32) (ut : FVec Ideal S768x64x128 .f32) (qi ko : FVec Ideal S768x64x96 .f32) (aq : FVec Ideal S768x64x64 .f32)
    (dk : FVec Ideal S768x1x96 .f32) : Prop where
  w : Is w fun j => wR (sums (C.g j)) (C.k j) (C.ks j) (C.bt j)
  ut : Is ut fun j => utR (sums (C.g j)) (C.k j) (C.ks j) (C.bt j) (C.v j)
  qi : Is qi fun j => qinR (sums (C.g j)) (C.q j) (C.qs j)
  ko : Is ko fun j => koutR (sums (C.g j)) (C.k j) (C.ks j)
  aq : Is aq fun j => scoreR (sums (C.g j)) (C.k j) (C.q j) (C.qs j) (C.ks j)
  dk : Is dk fun j _ d => Real.exp (sums (C.g j) 63 d)

section
variable {C : Cut} {w : FVec Ideal S768x64x96 .f32} {ut : FVec Ideal S768x64x128 .f32} {qi ko : FVec Ideal S768x64x96 .f32} {aq : FVec Ideal S768x64x64 .f32}
  {dk : FVec Ideal S768x1x96 .f32} (P : Parts C w ut qi ko aq dk)
variable {s : FVec Ideal S96x96x128 .f32} {u : FVec Ideal S96x64x128 .f32}
include P

theorem u_step (n : Fin 8) (o : ℕ) (ho : o = 96 * n.val) (h1 : S768x64x128.Slices ![o, 0, 0] S96x64x128) (h2 : S768x64x96.Slices ![o, 0, 0] S96x64x96) {S} (hs : Is s S) :
    Is (subf (extractStridedSlice S96x64x128 ![o, 0, 0] ut h1) (matmul dot_S96x64x96_S96x96x128_S96x64x128_2_1_1_2_0_0 (some .fp32) (extractStridedSlice S96x64x96 ![o, 0, 0] w h2) s
      (constant S96x64x128 .f32 0x00000000#32))) fun j => C.corr (blk n j) (S j) :=
  u_at (slice_at P.ut n o ho h1) (slice_at P.w n o ho h2) hs

theorem s_step (n : Fin 8) (o : ℕ) (ho : o = 96 * n.val) (h1 : S768x1x96.Slices ![o, 0, 0] S96x1x96) (h2 : S768x64x96.Slices ![o, 0, 0] S96x64x96) {S} (hs : Is s S)
    (hu : Is u fun j => C.corr (blk n j) (S j)) :
    Is (addf (mulf (broadcastTo S96x96x128 (transpose S96x96x1 [0, 2, 1] (extractStridedSlice S96x1x96 ![o, 0, 0] dk h1) transposes_S96x1x96_p0_2_1_S96x96x1) broadcasts_S96x96x1_S96x96x128) s)
      (matmul dot_S96x64x96_S96x64x128_S96x96x128_1_1_2_2_0_0 (some .fp32) (extractStridedSlice S96x64x96 ![o, 0, 0] ko h2) u (constant S96x96x128 .f32 0x00000000#32)))
      fun j => C.next (blk n j) (S j) :=
  state_at (slice_at P.dk n o ho h1) hs (slice_at P.ko n o ho h2) hu

theorem o_step (n : Fin 8) (o : ℕ) (ho : o = 96 * n.val) (h1 : S768x64x96.Slices ![o, 0, 0] S96x64x96) (h2 : S768x64x64.Slices ![o, 0, 0] S96x64x64) {S} (hs : Is s S)
    (hu : Is u fun j => C.corr (blk n j) (S j)) (j : Fin 96) (r : Fin 64) (e : Fin 128) :
    mulf (broadcast S96x64x128 (Scalar.ofBits .f32 0x3DD105EC#32 : Ideal .f32)) (addf
      (matmul dot_S96x64x96_S96x96x128_S96x64x128_2_1_1_2_0_0 (some .fp32) (extractStridedSlice S96x64x96 ![o, 0, 0] qi h1) s (constant S96x64x128 .f32 0x00000000#32))
      (matmul dot_S96x64x64_S96x64x128_S96x64x128_2_1_1_2_0_0 (some .fp32) (extractStridedSlice S96x64x64 ![o, 0, 0] aq h2) u (constant S96x64x128 .f32 0x00000000#32))) (ix3 j r e)
      = (Scalar.ofBits .f32 0x3DD105EC#32 : Ideal .f32) * ((C.out (blk n j) (S j) r e : ℝ) : EReal) :=
  out_at (slice_at P.qi n o ho h1) hs (slice_at P.aq n o ho h2) hu j r e

end

/-- The inputs' blocks hold the real inputs. -/
structure Holds (C : Cut) (x0 : Vec Ideal S2x512x48x96 .fp8e4m3) (x1 : Vec Ideal S2x512x48 .f32) (x2 : Vec Ideal S2x512x48x96 .fp8e4m3) (x3 : Vec Ideal S2x512x48 .f32)
    (x4 : Vec Ideal S2x512x48x128 .bf16) (x5 : Vec Ideal S2x512x48x96 .f32) (x6 : Vec Ideal S2x512x48 .f32) (x7 : Vec Ideal S2x48x96x128 .f32) : Prop where
  q : ∀ j r d, x0 (ix4 (jb j) (jt j r) (jh j) d) = ((C.q j r d : ℝ) : EReal)
  qs : ∀ j r, x1 (ix3 (jb j) (jt j r) (jh j)) = ((C.qs j r : ℝ) : EReal)
  k : ∀ j r d, x2 (ix4 (jb j) (jt j r) (jh j) d) = ((C.k j r d : ℝ) : EReal)
  ks : ∀ j r, x3 (ix3 (jb j) (jt j r) (jh j)) = ((C.ks j r : ℝ) : EReal)
  v : ∀ j r e, x4 (ix4 (jb j) (jt j r) (jh j) e) = ((C.v j r e : ℝ) : EReal)
  g : ∀ j r d, x5 (ix4 (jb j) (jt j r) (jh j) d) = ((C.g j r d : ℝ) : EReal)
  bt : ∀ j r, x6 (ix3 (jb j) (jt j r) (jh j)) = ((C.bt j r : ℝ) : EReal)
  h0 : ∀ (j : Fin 96) d e, x7 (ix4 (⟨j.val / 48, by omega⟩ : Fin 2) (⟨j.val % 48, Nat.mod_lt _ (by decide)⟩ : Fin 48) d e) = ((C.h0 j d e : ℝ) : EReal)

theorem ld0 {e : EltTy} (x : Vec Ideal S2x512x48x96 e) : View.ld x r0_0 = x := View.ld_unit_lit _ x (by decide)
theorem ld1 {e : EltTy} (x : Vec Ideal S2x512x48 e) : View.ld x r0_1 = x := View.ld_unit_lit _ x (by decide)
theorem ld2 {e : EltTy} (x : Vec Ideal S2x512x48x128 e) : View.ld x r0_2 = x := View.ld_unit_lit _ x (by decide)
theorem ld3 {e : EltTy} (x : Vec Ideal S2x48x96x128 e) : View.ld x r0_3 = x := View.ld_unit_lit _ x (by decide)

section
variable {C : Cut} {x0 : Vec Ideal S2x512x48x96 .fp8e4m3} {x1 : Vec Ideal S2x512x48 .f32} {x2 : Vec Ideal S2x512x48x96 .fp8e4m3} {x3 : Vec Ideal S2x512x48 .f32}
    {x4 : Vec Ideal S2x512x48x128 .bf16} {x5 : Vec Ideal S2x512x48x96 .f32} {x6 : Vec Ideal S2x512x48 .f32} {x7 : Vec Ideal S2x48x96x128 .f32} (H : Holds C x0 x1 x2 x3 x4 x5 x6 x7)
include H

theorem p83 : Is (k0_pay83 x0 x1 x2 x3 x4 x5 x6 x7) C.q := by unfold k0_pay83; rw [ld0]; exact q_at x0 C.q H.q
theorem p84 : Is (k0_pay84 x0 x1 x2 x3 x4 x5 x6 x7) C.k := by unfold k0_pay84; rw [ld0]; exact k_at x2 C.k H.k
theorem p85 : IsV (k0_pay85 x0 x1 x2 x3 x4 x5 x6 x7) C.qs := by unfold k0_pay85; rw [ld1]; exact qs_at x1 C.qs H.qs
theorem p86 : IsV (k0_pay86 x0 x1 x2 x3 x4 x5 x6 x7) C.ks := by unfold k0_pay86; rw [ld1]; exact ks_at x3 C.ks H.ks
theorem p87 : IsV (k0_pay87 x0 x1 x2 x3 x4 x5 x6 x7) C.bt := by unfold k0_pay87; rw [ld1]; exact bt_at x6 C.bt H.bt
theorem p88 : Is (k0_pay88 x0 x1 x2 x3 x4 x5 x6 x7) C.v := by unfold k0_pay88; rw [ld2]; exact v_at x4 C.v H.v
theorem p90 : Is (k0_pay90 x0 x1 x2 x3 x4 x5 x6 x7) fun j => grownR (sums (C.g j)) (C.q j) := by unfold k0_pay90 k0_pay89; rw [ld0]; exact qpos_at H.g (p83 H)
theorem p91 : Is (k0_pay91 x0 x1 x2 x3 x4 x5 x6 x7) fun j => grownR (sums (C.g j)) (C.k j) := by unfold k0_pay91 k0_pay89; rw [ld0]; exact kpos_at H.g (p84 H)
theorem p92 : Is (k0_pay92 x0 x1 x2 x3 x4 x5 x6 x7) fun j => leftR (sums (C.g j)) (C.k j) := by unfold k0_pay92 k0_pay89; rw [ld0]; exact kdec_at H.g (p84 H)
theorem p94 : Is (k0_pay94 x0 x1 x2 x3 x4 x5 x6 x7) fun j => sysR (sums (C.g j)) (C.k j) (C.ks j) (C.bt j) := by
  unfold k0_pay94 k0_pay89; rw [ld0]; exact sys_at H.g (p84 H) (p86 H) (p87 H)
theorem p95 : Is (k0_pay95 x0 x1 x2 x3 x4 x5 x6 x7) fun j => scoreR (sums (C.g j)) (C.k j) (C.q j) (C.qs j) (C.ks j) := by
  unfold k0_pay95 k0_pay89; rw [ld0]; exact score_at H.g (p83 H) (p84 H) (p85 H) (p86 H)
omit H in
theorem p97 : Is (k0_pay97 x0 x1 x2 x3 x4 x5 x6 x7) fun _ => 1 := eye_at
theorem p98 : Is (k0_pay98 x0 x1 x2 x3 x4 x5 x6 x7) fun j => rows (sysR (sums (C.g j)) (C.k j) (C.ks j) (C.bt j)) 13 := rows_13 p97 (p94 H) (rows_6 eye_at (p94 H))
theorem p99 : Is (k0_pay99 x0 x1 x2 x3 x4 x5 x6 x7) fun j => rows (sysR (sums (C.g j)) (C.k j) (C.ks j) (C.bt j)) 33 := rows_33 p97 (p94 H) (rows_26 p97 (p94 H) (p98 H))
theorem p100 : Is (k0_pay100 x0 x1 x2 x3 x4 x5 x6 x7) fun j => rows (sysR (sums (C.g j)) (C.k j) (C.ks j) (C.bt j)) 53 := rows_53 p97 (p94 H) (rows_46 p97 (p94 H) (p99 H))
theorem inv : Is (k0_pay42 rowNo (k0_pay94 x0 x1 x2 x3 x4 x5 x6 x7) (k0_pay97 x0 x1 x2 x3 x4 x5 x6 x7) (k0_pay101 x0 x1 x2 x3 x4 x5 x6 x7) (k0_pay102 x0 x1 x2 x3 x4 x5 x6 x7) (k0_pay103 x0 x1 x2 x3 x4 x5 x6 x7)) fun j => rows (sysR (sums (C.g j)) (C.k j) (C.ks j) (C.bt j)) 63 :=
  rows_63 p97 (p94 H) (p100 H)
theorem p104 : Is (k0_pay104 x0 x1 x2 x3 x4 x5 x6 x7) fun j => wR (sums (C.g j)) (C.k j) (C.ks j) (C.bt j) := w_at (inv H) (p91 H) (p86 H) (p87 H)
theorem p105 : Is (k0_pay105 x0 x1 x2 x3 x4 x5 x6 x7) fun j => utR (sums (C.g j)) (C.k j) (C.ks j) (C.bt j) (C.v j) := ut_at (inv H) (p88 H) (p87 H)
theorem p106 : Is (k0_pay106 x0 x1 x2 x3 x4 x5 x6 x7) fun j => qinR (sums (C.g j)) (C.q j) (C.qs j) := scaled_at (p90 H) (p85 H)
theorem p107 : Is (k0_pay107 x0 x1 x2 x3 x4 x5 x6 x7) fun j => koutR (sums (C.g j)) (C.k j) (C.ks j) := scaled_at' (p92 H) (p86 H)
theorem p108 : Is (k0_pay108 x0 x1 x2 x3 x4 x5 x6 x7) fun j _ d => Real.exp (sums (C.g j) 63 d) := by
  unfold k0_pay108 k0_pay89
  rw [ld0]
  refine decay_at (G := fun j _ d => sums (C.g j) 63 d) fun j r d => ?_
  obtain rfl : r = 0 := Subsingleton.elim _ _
  exact last_at H.g j d
theorem p109 : Is (k0_pay109 x0 x1 x2 x3 x4 x5 x6 x7) (C.state 0) := by unfold k0_pay109; rw [ld3]; exact h0_at x7 C.h0 H.h0

theorem parts : Parts C (k0_pay104 x0 x1 x2 x3 x4 x5 x6 x7) (k0_pay105 x0 x1 x2 x3 x4 x5 x6 x7) (k0_pay106 x0 x1 x2 x3 x4 x5 x6 x7) (k0_pay107 x0 x1 x2 x3 x4 x5 x6 x7) (k0_pay95 x0 x1 x2 x3 x4 x5 x6 x7) (k0_pay108 x0 x1 x2 x3 x4 x5 x6 x7) := ⟨p104 H, p105 H, p106 H, p107 H, p95 H, p108 H⟩

/-! The states and the corrections, chunk by chunk. -/

theorem u0 : Is (k0_pay54 (k0_pay109 x0 x1 x2 x3 x4 x5 x6 x7) (k0_pay110 x0 x1 x2 x3 x4 x5 x6 x7) (k0_pay111 x0 x1 x2 x3 x4 x5 x6 x7)) fun j => C.corr (blk 0 j) (C.state 0 j) := u_step (parts H) 0 0 rfl slices_S768x64x128_o0_0_0_S96x64x128 slices_S768x64x96_o0_0_0_S96x64x96 (p109 H)
theorem s1 : Is (k0_pay56 (k0_pay108 x0 x1 x2 x3 x4 x5 x6 x7) (k0_pay109 x0 x1 x2 x3 x4 x5 x6 x7) (k0_pay110 x0 x1 x2 x3 x4 x5 x6 x7) (k0_pay111 x0 x1 x2 x3 x4 x5 x6 x7) (k0_pay112 x0 x1 x2 x3 x4 x5 x6 x7)) (C.state 1) := s_step (parts H) 0 0 rfl slices_S768x1x96_o0_0_0_S96x1x96 slices_S768x64x96_o0_0_0_S96x64x96 (p109 H) (u0 H)
theorem u1 : Is (k0_pay57 (k0_pay104 x0 x1 x2 x3 x4 x5 x6 x7) (k0_pay105 x0 x1 x2 x3 x4 x5 x6 x7) (k0_pay108 x0 x1 x2 x3 x4 x5 x6 x7) (k0_pay109 x0 x1 x2 x3 x4 x5 x6 x7) (k0_pay110 x0 x1 x2 x3 x4 x5 x6 x7) (k0_pay111 x0 x1 x2 x3 x4 x5 x6 x7) (k0_pay112 x0 x1 x2 x3 x4 x5 x6 x7)) fun j => C.corr (blk 1 j) (C.state 1 j) := u_step (parts H) 1 96 rfl slices_S768x64x128_o96_0_0_S96x64x128 slices_S768x64x96_o96_0_0_S96x64x96 (s1 H)
theorem s2 : Is (k0_pay113 x0 x1 x2 x3 x4 x5 x6 x7) (C.state 2) := s_step (parts H) 1 96 rfl slices_S768x1x96_o96_0_0_S96x1x96 slices_S768x64x96_o96_0_0_S96x64x96 (s1 H) (u1 H)
theorem u2 : Is (k0_pay115 x0 x1 x2 x3 x4 x5 x6 x7) fun j => C.corr (blk 2 j) (C.state 2 j) := u_step (parts H) 2 192 rfl slices_S768x64x128_o192_0_0_S96x64x128 slices_S768x64x96_o192_0_0_S96x64x96 (s2 H)
theorem s3 : Is (k0_pay64 (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) (C.state 3) := s_step (parts H) 2 192 rfl slices_S768x1x96_o192_0_0_S96x1x96 slices_S768x64x96_o192_0_0_S96x64x96 (s2 H) (u2 H)
theorem u3 : Is (k0_pay65 (k0_pay104 x0 x1 x2 x3 x4 x5 x6 x7) (k0_pay105 x0 x1 x2 x3 x4 x5 x6 x7) (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) fun j => C.corr (blk 3 j) (C.state 3 j) := u_step (parts H) 3 288 rfl slices_S768x64x128_o288_0_0_S96x64x128 slices_S768x64x96_o288_0_0_S96x64x96 (s3 H)
theorem s4 : Is (k0_pay67 (k0_pay104 x0 x1 x2 x3 x4 x5 x6 x7) (k0_pay105 x0 x1 x2 x3 x4 x5 x6 x7) (k0_pay107 x0 x1 x2 x3 x4 x5 x6 x7) (k0_pay108 x0 x1 x2 x3 x4 x5 x6 x7) (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) (C.state 4) := s_step (parts H) 3 288 rfl slices_S768x1x96_o288_0_0_S96x1x96 slices_S768x64x96_o288_0_0_S96x64x96 (s3 H) (u3 H)
theorem u4 : Is (k0_pay68 (k0_pay104 x0 x1 x2 x3 x4 x5 x6 x7) (k0_pay105 x0 x1 x2 x3 x4 x5 x6 x7) (k0_pay107 x0 x1 x2 x3 x4 x5 x6 x7) (k0_pay108 x0 x1 x2 x3 x4 x5 x6 x7) (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) fun j => C.corr (blk 4 j) (C.state 4 j) := u_step (parts H) 4 384 rfl slices_S768x64x128_o384_0_0_S96x64x128 slices_S768x64x96_o384_0_0_S96x64x96 (s4 H)
theorem s5 : Is (k0_pay117 x0 x1 x2 x3 x4 x5 x6 x7) (C.state 5) := s_step (parts H) 4 384 rfl slices_S768x1x96_o384_0_0_S96x1x96 slices_S768x64x96_o384_0_0_S96x64x96 (s4 H) (u4 H)
theorem u5 : Is (k0_pay120 x0 x1 x2 x3 x4 x5 x6 x7) fun j => C.corr (blk 5 j) (C.state 5 j) := u_step (parts H) 5 480 rfl slices_S768x64x128_o480_0_0_S96x64x128 slices_S768x64x96_o480_0_0_S96x64x96 (s5 H)
theorem s6 : Is (k0_pay76 (k0_pay117 x0 x1 x2 x3 x4 x5 x6 x7) (k0_pay118 x0 x1 x2 x3 x4 x5 x6 x7) (k0_pay119 x0 x1 x2 x3 x4 x5 x6 x7) (k0_pay120 x0 x1 x2 x3 x4 x5 x6 x7)) (C.state 6) := s_step (parts H) 5 480 rfl slices_S768x1x96_o480_0_0_S96x1x96 slices_S768x64x96_o480_0_0_S96x64x96 (s5 H) (u5 H)
theorem u6 : Is (k0_pay77 (k0_pay104 x0 x1 x2 x3 x4 x5 x6 x7) (k0_pay105 x0 x1 x2 x3 x4 x5 x6 x7) (k0_pay117 x0 x1 x2 x3 x4 x5 x6 x7) (k0_pay118 x0 x1 x2 x3 x4 x5 x6 x7) (k0_pay119 x0 x1 x2 x3 x4 x5 x6 x7) (k0_pay120 x0 x1 x2 x3 x4 x5 x6 x7)) fun j => C.corr (blk 6 j) (C.state 6 j) := u_step (parts H) 6 576 rfl slices_S768x64x128_o576_0_0_S96x64x128 slices_S768x64x96_o576_0_0_S96x64x96 (s6 H)
theorem s7 : Is (k0_pay78 (k0_pay104 x0 x1 x2 x3 x4 x5 x6 x7) (k0_pay105 x0 x1 x2 x3 x4 x5 x6 x7) (k0_pay107 x0 x1 x2 x3 x4 x5 x6 x7) (k0_pay108 x0 x1 x2 x3 x4 x5 x6 x7) (k0_pay117 x0 x1 x2 x3 x4 x5 x6 x7) (k0_pay118 x0 x1 x2 x3 x4 x5 x6 x7) (k0_pay119 x0 x1 x2 x3 x4 x5 x6 x7) (k0_pay120 x0 x1 x2 x3 x4 x5 x6 x7)) (C.state 7) := s_step (parts H) 6 576 rfl slices_S768x1x96_o576_0_0_S96x1x96 slices_S768x64x96_o576_0_0_S96x64x96 (s6 H) (u6 H)
theorem u7 : Is (k0_pay79 (k0_pay104 x0 x1 x2 x3 x4 x5 x6 x7) (k0_pay105 x0 x1 x2 x3 x4 x5 x6 x7) (k0_pay107 x0 x1 x2 x3 x4 x5 x6 x7) (k0_pay108 x0 x1 x2 x3 x4 x5 x6 x7) (k0_pay117 x0 x1 x2 x3 x4 x5 x6 x7) (k0_pay118 x0 x1 x2 x3 x4 x5 x6 x7) (k0_pay119 x0 x1 x2 x3 x4 x5 x6 x7) (k0_pay120 x0 x1 x2 x3 x4 x5 x6 x7)) fun j => C.corr (blk 7 j) (C.state 7 j) := u_step (parts H) 7 672 rfl slices_S768x64x128_o672_0_0_S96x64x128 slices_S768x64x96_o672_0_0_S96x64x96 (s7 H)
theorem s8 : Is (k0_pay80 (k0_pay104 x0 x1 x2 x3 x4 x5 x6 x7) (k0_pay105 x0 x1 x2 x3 x4 x5 x6 x7) (k0_pay107 x0 x1 x2 x3 x4 x5 x6 x7) (k0_pay108 x0 x1 x2 x3 x4 x5 x6 x7) (k0_pay117 x0 x1 x2 x3 x4 x5 x6 x7) (k0_pay118 x0 x1 x2 x3 x4 x5 x6 x7) (k0_pay119 x0 x1 x2 x3 x4 x5 x6 x7) (k0_pay120 x0 x1 x2 x3 x4 x5 x6 x7)) (C.state 8) := s_step (parts H) 7 672 rfl slices_S768x1x96_o672_0_0_S96x1x96 slices_S768x64x96_o672_0_0_S96x64x96 (s7 H) (u7 H)

/-- The reference's second result: the states after the last chunk. -/
theorem out9 (b : Fin 2) (h : Fin 48) (d : Fin 96) (e : Fin 128) :
    out0_9 x0 x1 x2 x3 x4 x5 x6 x7 (ix4 b h d e) = ((C.state 8 ⟨b.val * 48 + h.val, by omega⟩ d e : ℝ) : EReal) := by
  unfold out0_9
  rw [View.canon_cons_unit_lit _ _ _ (by decide)]
  unfold k0_pay2
  pointwise
  exact s8 H _ d e

omit H in
/-- Eight arrays over the heads, one for each chunk, put one after another. -/
theorem concat_at (a0 a1 a2 a3 a4 a5 a6 a7 : FVec Ideal S96x64x128 .f32) (f : Fin 8 → Fin 96 → Fin 64 → Fin 128 → EReal) (h)
    (h0 : ∀ i r e, a0 (ix3 i r e) = f 0 i r e) (h1 : ∀ i r e, a1 (ix3 i r e) = f 1 i r e) (h2 : ∀ i r e, a2 (ix3 i r e) = f 2 i r e) (h3 : ∀ i r e, a3 (ix3 i r e) = f 3 i r e)
    (h4 : ∀ i r e, a4 (ix3 i r e) = f 4 i r e) (h5 : ∀ i r e, a5 (ix3 i r e) = f 5 i r e) (h6 : ∀ i r e, a6 (ix3 i r e) = f 6 i r e) (h7 : ∀ i r e, a7 (ix3 i r e) = f 7 i r e)
    (n : Fin 8) (i : Fin 96) (r : Fin 64) (e : Fin 128) :
    concatenate S768x64x128 0 [⟨S96x64x128, a0⟩, ⟨S96x64x128, a1⟩, ⟨S96x64x128, a2⟩, ⟨S96x64x128, a3⟩, ⟨S96x64x128, a4⟩, ⟨S96x64x128, a5⟩, ⟨S96x64x128, a6⟩, ⟨S96x64x128, a7⟩] h
      (ix3 (blk n i) r e) = f n i r e := by
  have hb : (blk n i).val = 96 * n.val + i.val := rfl
  have hf : ∀ (p : ℕ) (hp : p < 8) (i' : Fin 96), p = n.val → i'.val = i.val → f ⟨p, hp⟩ i' r e = f n i r e := by
    rintro p hp i' rfl hi
    rw [Fin.ext hi]
  pointwise
  simp only [h0, h1, h2, h3, h4, h5, h6, h7]
  split
  · exact hf 0 (by decide) _ (by omega) (by dsimp only; omega)
  split
  · exact hf 1 (by decide) _ (by omega) (by dsimp only; omega)
  split
  · exact hf 2 (by decide) _ (by omega) (by dsimp only; omega)
  split
  · exact hf 3 (by decide) _ (by omega) (by dsimp only; omega)
  split
  · exact hf 4 (by decide) _ (by omega) (by dsimp only; omega)
  split
  · exact hf 5 (by decide) _ (by omega) (by dsimp only; omega)
  split
  · exact hf 6 (by decide) _ (by omega) (by dsimp only; omega)
  · exact hf 7 (by decide) _ (by omega) (by dsimp only; omega)

/-- The outputs of the chunks, one after another. -/
theorem outs (n : Fin 8) (i : Fin 96) (r : Fin 64) (e : Fin 128) :
    (k0_pay81 (k0_pay95 x0 x1 x2 x3 x4 x5 x6 x7) (k0_pay104 x0 x1 x2 x3 x4 x5 x6 x7) (k0_pay105 x0 x1 x2 x3 x4 x5 x6 x7) (k0_pay106 x0 x1 x2 x3 x4 x5 x6 x7) (k0_pay107 x0 x1 x2 x3 x4 x5 x6 x7) (k0_pay108 x0 x1 x2 x3 x4 x5 x6 x7) (k0_pay55 (k0_pay109 x0 x1 x2 x3 x4 x5 x6 x7) (k0_pay110 x0 x1 x2 x3 x4 x5 x6 x7) (k0_pay111 x0 x1 x2 x3 x4 x5 x6 x7) (k0_pay51 (k0_pay85 x0 x1 x2 x3 x4 x5 x6 x7) (k0_pay90 x0 x1 x2 x3 x4 x5 x6 x7)) (k0_pay52 (k0_pay95 x0 x1 x2 x3 x4 x5 x6 x7))) (k0_pay58 (k0_pay95 x0 x1 x2 x3 x4 x5 x6 x7) (k0_pay104 x0 x1 x2 x3 x4 x5 x6 x7) (k0_pay105 x0 x1 x2 x3 x4 x5 x6 x7) (k0_pay106 x0 x1 x2 x3 x4 x5 x6 x7) (k0_pay108 x0 x1 x2 x3 x4 x5 x6 x7) (k0_pay109 x0 x1 x2 x3 x4 x5 x6 x7) (k0_pay110 x0 x1 x2 x3 x4 x5 x6 x7) (k0_pay111 x0 x1 x2 x3 x4 x5 x6 x7) (k0_pay112 x0 x1 x2 x3 x4 x5 x6 x7)) (k0_pay62 (k0_pay95 x0 x1 x2 x3 x4 x5 x6 x7) (k0_pay104 x0 x1 x2 x3 x4 x5 x6 x7) (k0_pay105 x0 x1 x2 x3 x4 x5 x6 x7) (k0_pay106 x0 x1 x2 x3 x4 x5 x6 x7) (k0_pay107 x0 x1 x2 x3 x4 x5 x6 x7) (k0_pay108 x0 x1 x2 x3 x4 x5 x6 x7) (k0_pay109 x0 x1 x2 x3 x4 x5 x6 x7) (k0_pay110 x0 x1 x2 x3 x4 x5 x6 x7) (k0_pay111 x0 x1 x2 x3 x4 x5 x6 x7) (k0_pay112 x0 x1 x2 x3 x4 x5 x6 x7)) (k0_pay66 (k0_pay95 x0 x1 x2 x3 x4 x5 x6 x7) (k0_pay104 x0 x1 x2 x3 x4 x5 x6 x7) (k0_pay105 x0 x1 x2 x3 x4 x5 x6 x7) (k0_pay106 x0 x1 x2 x3 x4 x5 x6 x7) (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) (k0_pay69 (k0_pay95 x0 x1 x2 x3 x4 x5 x6 x7) (k0_pay104 x0 x1 x2 x3 x4 x5 x6 x7) (k0_pay105 x0 x1 x2 x3 x4 x5 x6 x7) (k0_pay106 x0 x1 x2 x3 x4 x5 x6 x7) (k0_pay107 x0 x1 x2 x3 x4 x5 x6 x7) (k0_pay108 x0 x1 x2 x3 x4 x5 x6 x7) (k0_pay113 x0 x1 x2 x3 x4 x5 x6 x7) (k0_pay114 x0 x1 x2 x3 x4 x5 x6 x7) (k0_pay115 x0 x1 x2 x3 x4 x5 x6 x7) (k0_pay116 x0 x1 x2 x3 x4 x5 x6 x7)) (k0_pay117 x0 x1 x2 x3 x4 x5 x6 x7) (k0_pay71 (k0_pay106 x0 x1 x2 x3 x4 x5 x6 x7)) (k0_pay72 (k0_pay95 x0 x1 x2 x3 x4 x5 x6 x7)) (k0_pay118 x0 x1 x2 x3 x4 x5 x6 x7) (k0_pay119 x0 x1 x2 x3 x4 x5 x6 x7) (k0_pay120 x0 x1 x2 x3 x4 x5 x6 x7) (constant S96x64x128 .f32 0x00000000#32)) (ix3 (blk n i) r e)
      = (Scalar.ofBits .f32 0x3DD105EC#32 : Ideal .f32) * ((C.out (blk n i) (C.state n.val i) r e : ℝ) : EReal) := by
  unfold k0_pay81
  exact concat_at _ _ _ _ _ _ _ _ (fun n i r e => (Scalar.ofBits .f32 0x3DD105EC#32 : Ideal .f32) * ((C.out (blk n i) (C.state n.val i) r e : ℝ) : EReal)) _
    (o_step (parts H) 0 0 rfl slices_S768x64x96_o0_0_0_S96x64x96 slices_S768x64x64_o0_0_0_S96x64x64 (p109 H) (u0 H))
    (o_step (parts H) 1 96 rfl slices_S768x64x96_o96_0_0_S96x64x96 slices_S768x64x64_o96_0_0_S96x64x64 (s1 H) (u1 H))
    (o_step (parts H) 2 192 rfl slices_S768x64x96_o192_0_0_S96x64x96 slices_S768x64x64_o192_0_0_S96x64x64 (s2 H) (u2 H))
    (o_step (parts H) 3 288 rfl slices_S768x64x96_o288_0_0_S96x64x96 slices_S768x64x64_o288_0_0_S96x64x64 (s3 H) (u3 H))
    (o_step (parts H) 4 384 rfl slices_S768x64x96_o384_0_0_S96x64x96 slices_S768x64x64_o384_0_0_S96x64x64 (s4 H) (u4 H))
    (o_step (parts H) 5 480 rfl slices_S768x64x96_o480_0_0_S96x64x96 slices_S768x64x64_o480_0_0_S96x64x64 (s5 H) (u5 H))
    (o_step (parts H) 6 576 rfl slices_S768x64x96_o576_0_0_S96x64x96 slices_S768x64x64_o576_0_0_S96x64x64 (s6 H) (u6 H))
    (o_step (parts H) 7 672 rfl slices_S768x64x96_o672_0_0_S96x64x96 slices_S768x64x64_o672_0_0_S96x64x64 (s7 H) (u7 H))
    n i r e

omit H in
theorem pay1_at (y : FVec Ideal S768x64x128 .f32) (b : Fin 2) (t : Fin 512) (f : Fin 6144) :
    k0_pay1 y (ix3 b t f) = y (ix3 (blk ⟨t.val / 64, by omega⟩ ⟨b.val * 48 + f.val / 128, by omega⟩) ⟨t.val % 64, Nat.mod_lt _ (by decide)⟩ ⟨f.val % 128, Nat.mod_lt _ (by decide)⟩) := by
  have hj : (⟨t.val / 64 * 96 + b.val * 48 + f.val / 128, by omega⟩ : Fin 768) = blk ⟨t.val / 64, by omega⟩ ⟨b.val * 48 + f.val / 128, by omega⟩ :=
    Fin.ext (show t.val / 64 * 96 + b.val * 48 + f.val / 128 = 96 * (t.val / 64) + (b.val * 48 + f.val / 128) by omega)
  rw [← hj]
  unfold k0_pay1
  pointwise

/-- The reference's first result: the outputs of the chunks. -/
theorem out8 (b : Fin 2) (t : Fin 512) (f : Fin 6144) :
    out0_8 x0 x1 x2 x3 x4 x5 x6 x7 (ix3 b t f) = (Scalar.ofBits .f32 0x3DD105EC#32 : Ideal .f32) *
      ((C.out (blk ⟨t.val / 64, by omega⟩ ⟨b.val * 48 + f.val / 128, by omega⟩) (C.state (⟨t.val / 64, by omega⟩ : Fin 8).val ⟨b.val * 48 + f.val / 128, by omega⟩)
        ⟨t.val % 64, Nat.mod_lt _ (by decide)⟩ ⟨f.val % 128, Nat.mod_lt _ (by decide)⟩ : ℝ) : EReal) := by
  unfold out0_8
  rw [View.canon_cons_unit_lit _ _ _ (by decide)]
  exact (pay1_at _ b t f).trans (outs H ⟨t.val / 64, by omega⟩ ⟨b.val * 48 + f.val / 128, by omega⟩ ⟨t.val % 64, Nat.mod_lt _ (by decide)⟩ ⟨f.val % 128, Nat.mod_lt _ (by decide)⟩)

end

end Cert.ReferenceIdeal.Hand
-- ==== Proof.RefValue.lean ====
module

public import proofs.«01_k».proof.Proof.KernelIdealValue
public import proofs.«01_k».proof.Proof.RefRun

@[expose] public section

noncomputable section

namespace Cert.ReferenceIdeal.Hand

open Cert.ReferenceIdeal Cert.ReferenceIdeal.Gen Idealize.ShloMosaic Idealize.ShloMosaic.TcCoe Idealize.SL.Sem
open Cert.KernelIdeal.Hand (Inputs pos Chunk headOut_eq headState_eq outAll stateAll)

/-! The reference's two arrays are the ones the kernel leaves. -/

/-- The kernel's inputs, cut into pairs. -/
def cut (X : Inputs) : Cut where
  q j r d := X.q (jb j) (jt j r) (jh j) d
  k j r d := X.k (jb j) (jt j r) (jh j) d
  g j r d := X.g (jb j) (jt j r) (jh j) d
  v j r e := X.v (jb j) (jt j r) (jh j) e
  qs j r := X.qs (jb j) (jt j r) (jh j)
  ks j r := X.ks (jb j) (jt j r) (jh j)
  bt j r := X.bt (jb j) (jt j r) (jh j)
  h0 j := X.h0 ⟨j.val / 48, by omega⟩ ⟨j.val % 48, Nat.mod_lt _ (by decide)⟩

/-- Head `h` of sequence `b`. -/
def bh (b : Fin 2) (h : Fin 48) : Fin 96 := ⟨b.val * 48 + h.val, by omega⟩

theorem jb_eq (n : Fin 8) (b : Fin 2) (h : Fin 48) : jb (blk n (bh b h)) = b := Fin.ext (show (96 * n.val + (b.val * 48 + h.val)) / 48 % 2 = b.val by omega)
theorem jh_eq (n : Fin 8) (b : Fin 2) (h : Fin 48) : jh (blk n (bh b h)) = h := Fin.ext (show (96 * n.val + (b.val * 48 + h.val)) % 48 = h.val by omega)
theorem jt_eq (n : Fin 8) (b : Fin 2) (h : Fin 48) (r : Fin 64) : jt (blk n (bh b h)) r = pos n r :=
  Fin.ext (show (96 * n.val + (b.val * 48 + h.val)) / 96 * 64 + r.val = 64 * n.val + r.val by omega)

variable (X : Inputs)

theorem next_eq (n : Fin 8) (b : Fin 2) (h : Fin 48) (S : Matrix (Fin 96) (Fin 128) ℝ) : (cut X).next (blk n (bh b h)) S = (X.chunk b n).next h S := by
  refine Eq.trans ?_ (headState_eq ((X.chunk b n).G h) ((X.chunk b n).K h) (fun r => X.ks b (pos n r) h) (fun r => X.bt b (pos n r) h) ((X.chunk b n).V h) S).symm
  unfold Cut.next
  simp only [cut, jb_eq, jh_eq, jt_eq]
  rfl

theorem out_eq (n : Fin 8) (b : Fin 2) (h : Fin 48) (S : Matrix (Fin 96) (Fin 128) ℝ) (r : Fin 64) (e : Fin 128) :
    (Scalar.ofBits .f32 0x3DD105EC#32 : Ideal .f32) * (((cut X).out (blk n (bh b h)) S r e : ℝ) : EReal) = (X.chunk b n).out h S r e := by
  refine Eq.trans ?_ (headOut_eq ((X.chunk b n).G h) ((X.chunk b n).K h) ((X.chunk b n).Q h) (fun r => X.qs b (pos n r) h) (fun r => X.ks b (pos n r) h) (fun r => X.bt b (pos n r) h) ((X.chunk b n).V h) S _ r e).symm
  unfold Cut.out
  simp only [cut, jb_eq, jh_eq, jt_eq]
  rfl

theorem state_eq (b : Fin 2) (h : Fin 48) : ∀ n : ℕ, (cut X).state n (bh b h) = X.state b h n
  | 0 => by
    show X.h0 _ _ = X.h0 b h
    congr 1
    · exact Fin.ext (show (b.val * 48 + h.val) / 48 = b.val by omega)
    · exact Fin.ext (show (b.val * 48 + h.val) % 48 = h.val by omega)
  | n + 1 => by
    show (cut X).next _ ((cut X).state n (bh b h)) = (X.chunk b _).next h (X.state b h n)
    rw [state_eq b h n, next_eq]

variable (m : (ℓ : Loc nD τ sig) → Buf (Elt Ideal) ℓ) (ρ : Dev nD → PrngReg)

/-- Core `c`'s arguments hold the numbers `X`. -/
structure ArgsHold (c : Dev nD) (X : Inputs) : Prop where
  q : ∀ b t h d, m ((c.tc : Thread nD τ).loc main_arg0) (ix4 b t h d) = (X.q b t h d : EReal)
  qs : ∀ b t h, m ((c.tc : Thread nD τ).loc main_arg1) (ix3 b t h) = (X.qs b t h : EReal)
  k : ∀ b t h d, m ((c.tc : Thread nD τ).loc main_arg2) (ix4 b t h d) = (X.k b t h d : EReal)
  ks : ∀ b t h, m ((c.tc : Thread nD τ).loc main_arg3) (ix3 b t h) = (X.ks b t h : EReal)
  v : ∀ b t h e, m ((c.tc : Thread nD τ).loc main_arg4) (ix4 b t h e) = (X.v b t h e : EReal)
  g : ∀ b t h d, m ((c.tc : Thread nD τ).loc main_arg5) (ix4 b t h d) = (X.g b t h d : EReal)
  bt : ∀ b t h, m ((c.tc : Thread nD τ).loc main_arg6) (ix3 b t h) = (X.bt b t h : EReal)
  h0 : ∀ b h d e, m ((c.tc : Thread nD τ).loc main_arg7) (ix4 b h d e) = (X.h0 b h d e : EReal)

theorem idx0 : ∀ t : Fin cfg0.N, win0_0.index t = ![0, 0, 0, 0] := (by decide +kernel : ∀ t : Fin grid0.N, win0_0.index t = ![0, 0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0, 0] := (by decide +kernel : ∀ t : Fin grid0.N, win0_2.index t = ![0, 0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0, 0] := (by decide +kernel : ∀ t : Fin grid0.N, win0_4.index t = ![0, 0, 0, 0])
theorem idx5 : ∀ t : Fin cfg0.N, win0_5.index t = ![0, 0, 0, 0] := (by decide +kernel : ∀ t : Fin grid0.N, win0_5.index t = ![0, 0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0, 0] := (by decide +kernel : ∀ t : Fin grid0.N, win0_7.index t = ![0, 0, 0, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0, 0, 0] := (by decide +kernel : ∀ t : Fin grid0.N, win0_9.index t = ![0, 0, 0, 0])

variable {m X} {c : Dev nD}

theorem V_v0 (c : Dev nD) (x : S2x512x48x96.Idx) : V m c main_v0 x = m ((c.tc : Thread nD τ).loc main_arg0) x := by
  rfl
theorem V_v1 (c : Dev nD) (x : S2x512x48x96.Idx) : V m c main_v1 x = m ((c.tc : Thread nD τ).loc main_arg2) x := by
  rfl

theorem holds (A : ArgsHold m c X) (t : Fin cfg0.N) :
    Holds (cut X) (iblk m c 0 t) (iblk m c 1 t) (iblk m c 2 t) (iblk m c 3 t) (iblk m c 4 t) (iblk m c 5 t) (iblk m c 6 t) (iblk m c 7 t) where
  q j r d := by
    refine Eq.trans ?_ (A.q _ _ _ _)
    blk_simp [iblk, idx0]
    refine (V_v0 c _).trans ?_
    refine congrArg (m _) (funext fun a => Fin.ext ?_)
    fin_cases a <;> blk_simp [idx0]
  qs j r := by
    refine Eq.trans ?_ (A.qs _ _ _)
    blk_simp [iblk, idx1]
    rw [V_main_arg1]
    refine congrArg (m _) (funext fun a => Fin.ext ?_)
    fin_cases a <;> blk_simp [idx1]
  k j r d := by
    refine Eq.trans ?_ (A.k _ _ _ _)
    blk_simp [iblk, idx2]
    refine (V_v1 c _).trans ?_
    refine congrArg (m _) (funext fun a => Fin.ext ?_)
    fin_cases a <;> blk_simp [idx2]
  ks j r := by
    refine Eq.trans ?_ (A.ks _ _ _)
    blk_simp [iblk, idx3]
    rw [V_main_arg3]
    refine congrArg (m _) (funext fun a => Fin.ext ?_)
    fin_cases a <;> blk_simp [idx3]
  v j r d := by
    refine Eq.trans ?_ (A.v _ _ _ _)
    blk_simp [iblk, idx4]
    rw [V_main_arg4]
    refine congrArg (m _) (funext fun a => Fin.ext ?_)
    fin_cases a <;> blk_simp [idx4]
  g j r d := by
    refine Eq.trans ?_ (A.g _ _ _ _)
    blk_simp [iblk, idx5]
    rw [V_main_arg5]
    refine congrArg (m _) (funext fun a => Fin.ext ?_)
    fin_cases a <;> blk_simp [idx5]
  bt j r := by
    refine Eq.trans ?_ (A.bt _ _ _)
    blk_simp [iblk, idx6]
    rw [V_main_arg6]
    refine congrArg (m _) (funext fun a => Fin.ext ?_)
    fin_cases a <;> blk_simp [idx6]
  h0 j d e := by
    refine Eq.trans ?_ (A.h0 _ _ _ _)
    blk_simp [iblk, idx7]
    rw [V_main_arg7]
    refine congrArg (m _) (funext fun a => Fin.ext ?_)
    fin_cases a <;> blk_simp [idx7]

theorem out8_eq (A : ArgsHold m c X) (t : Fin cfg0.N) (y : S2x512x6144.Idx) :
    out0_8 (iblk m c 0 t) (iblk m c 1 t) (iblk m c 2 t) (iblk m c 3 t) (iblk m c 4 t) (iblk m c 5 t) (iblk m c 6 t) (iblk m c 7 t) y = outAll X y := by
  obtain ⟨b, s, f, rfl⟩ : ∃ b s f, y = ix3 b s f := ⟨_, _, _, eq_ix3 y⟩
  rw [out8 (holds A t) b s f]
  refine (out_eq X ⟨s.val / 64, by omega⟩ b ⟨f.val / 128, by omega⟩ ((cut X).state (⟨s.val / 64, by omega⟩ : Fin 8).val (bh b ⟨f.val / 128, by omega⟩)) ⟨s.val % 64, Nat.mod_lt _ (by decide)⟩
    ⟨f.val % 128, Nat.mod_lt _ (by decide)⟩).trans ?_
  rw [state_eq]
  rfl

theorem out9_eq (A : ArgsHold m c X) (t : Fin cfg0.N) (y : S2x48x96x128.Idx) :
    out0_9 (iblk m c 0 t) (iblk m c 1 t) (iblk m c 2 t) (iblk m c 3 t) (iblk m c 4 t) (iblk m c 5 t) (iblk m c 6 t) (iblk m c 7 t) y = stateAll X y := by
  obtain ⟨b, h, d, e, rfl⟩ : ∃ b h d e, y = ix4 b h d e := ⟨_, _, _, _, eq_ix4 y⟩
  rw [out9 (holds A t) b h d e]
  have E := state_eq X b h 8
  unfold bh at E
  rw [E]
  rfl

theorem arr_out (A : ArgsHold m c X) : (dats m 0 c).arrAt 8 cfg0.N = outAll X := by
  refine (dats m 0 c).arrAt_eq_of_covers 8 _ (by decide +kernel) fun t hf y => ?_
  blk_simp
  rw [after0_8]
  refine (out8_eq A t y).trans (congrArg (outAll X) (funext fun a => Fin.ext ?_))
  fin_cases a <;> blk_simp [idx8]

theorem arr_state (A : ArgsHold m c X) : (dats m 0 c).arrAt 9 cfg0.N = stateAll X := by
  refine (dats m 0 c).arrAt_eq_of_covers 9 _ (by decide +kernel) fun t hf y => ?_
  blk_simp
  rw [after0_9]
  refine (out9_eq A t y).trans (congrArg (stateAll X) (funext fun a => Fin.ext ?_))
  fin_cases a <;> blk_simp [idx9]

/-- Every run of the reference on these arguments: its two results named, its arguments unchanged. -/
theorem r_final {Y : Dev nD → Inputs} (A : ∀ c, ArgsHold m c (Y c)) :
    θ_run defs (onTc (τ := τ) (main (F := Ideal))) ⟨m, fun _ => 0, ρ⟩ (fun r => ∀ c : Dev nD,
      r.2.mem ((c.tc : Thread nD τ).loc main_v2_0) = outAll (Y c)
      ∧ r.2.mem ((c.tc : Thread nD τ).loc main_v2_1) = stateAll (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (arr_out (A c)), ((h c).1 9).trans (arr_state (A c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.ReferenceIdeal.Hand
-- ==== Proof.Algebraic.lean ====
module

public import proofs.«01_k».proof.Defs
public import proofs.«01_k».proof.Proof.Finite
public import proofs.«01_k».proof.Proof.RefValue

/-! The value claim: from arguments without infinities the idealized kernel and the reference leave the same two arrays,
`outAll` (every query's output) and `stateAll` (every head's final state), written out over the real numbers. -/

@[expose] public section

open Idealize Idealize.ShloMosaic
open Cert.KernelIdeal.Hand (outAll stateAll)

namespace Cert.Proof

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hp hm
  have A := Cert.Finite.holds hp
  have B : ∀ c, Cert.ReferenceIdeal.Hand.ArgsHold m' c (Cert.Finite.inputs m c) := fun c => by
    obtain ⟨e0, e1, e2, e3, e4, e5, e6, e7⟩ := hm c
    exact
      { q := fun b t h d => (congrFun e0 (ix4 b t h d)).trans ((A c).q b t h d)
        qs := fun b t h => (congrFun e1 (ix3 b t h)).trans ((A c).qs b t h)
        k := fun b t h d => (congrFun e2 (ix4 b t h d)).trans ((A c).k b t h d)
        ks := fun b t h => (congrFun e3 (ix3 b t h)).trans ((A c).ks b t h)
        v := fun b t h e => (congrFun e4 (ix4 b t h e)).trans ((A c).v b t h e)
        g := fun b t h d => (congrFun e5 (ix4 b t h d)).trans ((A c).g b t h d)
        bt := fun b t h => (congrFun e6 (ix3 b t h)).trans ((A c).bt b t h)
        h0 := fun b h d e => (congrFun e7 (ix4 b h d e)).trans ((A c).h0 b h d e) }
  exact ⟨fun c => outAll (Cert.Finite.inputs m c), fun c => stateAll (Cert.Finite.inputs m c),
    Cert.KernelIdeal.Hand.v_final g A, Cert.ReferenceIdeal.Hand.r_final g' B⟩

end Cert.Proof
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Algebraic
public import Idealize.ShloMosaic.Lib.Bf16Pair

@[expose] public section
open Idealize Idealize.ShloMosaic

namespace Cert.Proof

/-- The kernel at the machine's floats runs to the end, leaves its arguments alone and every semaphore at zero. -/
theorem frame_kernel : Cert.quiescent_Kernel (hKernel := Cert.Kernel.Gen.facts) := by
  intro m g _
  letI := Cert.Kernel.Gen.facts
  exact Cert.Kernel.Hand.frame m g

/-- The same for the idealized kernel over the extended reals. -/
theorem frame_kernelIdeal : Cert.quiescent_KernelIdeal (hKernelIdeal := Cert.KernelIdeal.Gen.facts) := by
  intro m g _
  letI := Cert.KernelIdeal.Gen.facts
  exact Cert.KernelIdeal.Hand.frame m g

/-- The same again, stated under the precondition of the value claim. -/
theorem frame_kernelIdeal_finite :
    Cert.quiescent_KernelIdeal_pre_finite (hKernelIdeal := Cert.KernelIdeal.Gen.facts) (hPre_finite := Cert.Finite.facts) :=
  fun m g _ => frame_kernelIdeal m g trivial

/-- The same for the idealized reference. -/
theorem frame_referenceIdeal : Cert.quiescent_ReferenceIdeal (hReferenceIdeal := Cert.ReferenceIdeal.Gen.facts) := by
  intro m g _
  letI := Cert.ReferenceIdeal.Gen.facts
  exact Cert.ReferenceIdeal.Gen.frame m g

/-- The same again, stated under the precondition of the value claim. -/
theorem frame_referenceIdeal_finite :
    Cert.quiescent_ReferenceIdeal_pre_finite (hReferenceIdeal := Cert.ReferenceIdeal.Gen.facts) (hPre_finite := Cert.Finite.facts) :=
  fun m g _ => frame_referenceIdeal m g trivial

/-- Every rewrite of the kernel into its idealization keeps the bits. -/
theorem preserves : Cert.preserves_Kernel_KernelIdeal :=
  ⟨IdealRules.bf16_pair.packStatement _, IdealRules.bf16_pair.statement _ _, IdealRules.bf16_pair.statement _ _, IdealRules.bf16_pair.statement _ _⟩

/-- Everything the certificate claims. -/
theorem claim : Cert.Claim :=
  ⟨Cert.Kernel.Gen.facts, Cert.KernelIdeal.Gen.facts, Cert.ReferenceIdeal.Gen.facts, Cert.Finite.facts,
    frame_kernel, frame_kernelIdeal, frame_kernelIdeal_finite, frame_referenceIdeal, frame_referenceIdeal_finite,
    preserves, algebraic⟩

end Cert.Proof
